-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S512x5000 : Shape := ⟨2, ![512, 5000]⟩
abbrev S512x11 : Shape := ⟨2, ![512, 11]⟩
abbrev S_ : Shape := ⟨0, ![]⟩
abbrev S512x1 : Shape := ⟨2, ![512, 1]⟩
abbrev S512 : Shape := ⟨1, ![512]⟩

class Facts : Prop where
  sliceFits_S512x5000_S512x11 : S512x5000.Slices (fun _ => 0) S512x11
  bcast_S_S512x5000 : S_.BroadcastsInDim S512x5000 (![] : Fin 0 → Fin S512x5000.rank)
  reducesTo_S512x5000_S_d0_1 : S512x5000.ReducesTo [0, 1] S_
  h_S_ : 0 < S_.numel
  slices_S512x11_S512x1_0_9 : S512x11.Slices ![0, 9] S512x1
  shapeCasts_S512x1_S512 : S512x1.ShapeCasts S512
  slices_S512x11_S512x1_0_10 : S512x11.Slices ![0, 10] S512x1
  reducesTo_S512_S_d0 : S512.ReducesTo [0] S_

variable [Facts]

def fn_part1 {F : FTy → Type} [FloatOps F] (main_values : FVec F S512x11 .f32) (main_values_0 : FVec F S512x11 .f32) (main_v9 : IVec S_ 1) (main_v13 : IVec S_ 1) : IVec S_ 1 :=
  let main_v14 : IVec S_ 1 := andi main_v9 main_v13
  let main_v15 : FVec F S512x1 .f32 := (extractStridedSlice S512x1 ![0, 9] · slices_S512x11_S512x1_0_9) main_values
  let main_v16 : FVec F S512 .f32 := shapeCast S512 main_v15 shapeCasts_S512x1_S512
  let main_v17 : FVec F S512x1 .f32 := (extractStridedSlice S512x1 ![0, 10] · slices_S512x11_S512x1_0_10) main_values
  let main_v18 : FVec F S512 .f32 := shapeCast S512 main_v17 shapeCasts_S512x1_S512
  let main_v19 : IVec S512 1 := cmpf .ogt main_v16 main_v18
  let main_c_6 : IVec S_ 1 := constantI S_ 1 1#1
  let main_v20 : IVec S_ 1 := (fun x v => Host.reduce IntOp.andi x v reducesTo_S512_S_d0 h_S_) main_v19 main_c_6
  let main_v21 : IVec S_ 1 := andi main_v14 main_v20
  let main_v22 : FVec F S512x1 .f32 := (extractStridedSlice S512x1 ![0, 9] · slices_S512x11_S512x1_0_9) main_values_0
  let main_v23 : FVec F S512 .f32 := shapeCast S512 main_v22 shapeCasts_S512x1_S512
  let main_v24 : FVec F S512x1 .f32 := (extractStridedSlice S512x1 ![0, 10] · slices_S512x11_S512x1_0_10) main_values_0
  let main_v25 : FVec F S512 .f32 := shapeCast S512 main_v24 shapeCasts_S512x1_S512
  let main_v26 : IVec S512 1 := cmpf .ogt main_v23 main_v25
  let main_c_7 : IVec S_ 1 := constantI S_ 1 1#1
  let main_v27 : IVec S_ 1 := (fun x v => Host.reduce IntOp.andi x v reducesTo_S512_S_d0 h_S_) main_v26 main_c_7
  let main_v28 : IVec S_ 1 := andi main_v21 main_v27
  main_v28

def fn {F : FTy → Type} [FloatOps F] (main_arg0 : FVec F S512x5000 .f32) (main_arg1 : FVec F S512x5000 .f32) (main_arg2 : FVec F S512x5000 .f32) (main_arg3 : FVec F S512x5000 .f32) : IVec S_ 1 :=
  let main_values : FVec F S512x11 .f32 := (fun x => (Host.topK S512x11 1 (FloatOps.cmpfTotal .gt) x sliceFits_S512x5000_S512x11).1) main_arg2
  let main_indices : IVec S512x11 32 := (fun x => (Host.topK S512x11 1 (FloatOps.cmpfTotal .gt) x sliceFits_S512x5000_S512x11).2) main_arg2
  let main_v0 : FVec F S512x5000 .f32 := Host.negf main_arg2
  let main_values_0 : FVec F S512x11 .f32 := (fun x => (Host.topK S512x11 1 (FloatOps.cmpfTotal .gt) x sliceFits_S512x5000_S512x11).1) main_v0
  let main_indices_1 : IVec S512x11 32 := (fun x => (Host.topK S512x11 1 (FloatOps.cmpfTotal .gt) x sliceFits_S512x5000_S512x11).2) main_v0
  let main_v1 : FVec F S512x5000 .f32 := Host.absf main_arg0
  let main_cst : FVec F S_ .f32 := constant S_ .f32 0x7F800000#32
  let main_v2 : FVec F S512x5000 .f32 := broadcastInDim S512x5000 ![] bcast_S_S512x5000 main_cst
  let main_v3 : IVec S512x5000 1 := cmpf .olt main_v1 main_v2
  let main_c : IVec S_ 1 := constantI S_ 1 1#1
  let main_v4 : IVec S_ 1 := (fun x v => Host.reduce IntOp.andi x v reducesTo_S512x5000_S_d0_1 h_S_) main_v3 main_c
  let main_v5 : FVec F S512x5000 .f32 := Host.absf main_arg1
  let main_cst_2 : FVec F S_ .f32 := constant S_ .f32 0x7F800000#32
  let main_v6 : FVec F S512x5000 .f32 := broadcastInDim S512x5000 ![] bcast_S_S512x5000 main_cst_2
  let main_v7 : IVec S512x5000 1 := cmpf .olt main_v5 main_v6
  let main_c_3 : IVec S_ 1 := constantI S_ 1 1#1
  let main_v8 : IVec S_ 1 := (fun x v => Host.reduce IntOp.andi x v reducesTo_S512x5000_S_d0_1 h_S_) main_v7 main_c_3
  let main_v9 : IVec S_ 1 := andi main_v4 main_v8
  let main_v10 : FVec F S512x5000 .f32 := Host.absf main_arg2
  let main_cst_4 : FVec F S_ .f32 := constant S_ .f32 0x7F800000#32
  let main_v11 : FVec F S512x5000 .f32 := broadcastInDim S512x5000 ![] bcast_S_S512x5000 main_cst_4
  let main_v12 : IVec S512x5000 1 := cmpf .olt main_v10 main_v11
  let main_c_5 : IVec S_ 1 := constantI S_ 1 1#1
  let main_v13 : IVec S_ 1 := (fun x v => Host.reduce IntOp.andi x v reducesTo_S512x5000_S_d0_1 h_S_) main_v12 main_c_5
  fn_part1 (F := F) main_values main_values_0 main_v9 main_v13
-- ==== Kernel.lean ====
abbrev S512x5000 : Shape := ⟨2, ![512, 5000]⟩
abbrev S5000x512 : Shape := ⟨2, ![5000, 512]⟩
abbrev S1x1 : Shape := ⟨2, ![1, 1]⟩
abbrev S5000x128 : Shape := ⟨2, ![5000, 128]⟩
abbrev S1x128 : Shape := ⟨2, ![1, 128]⟩
abbrev S8x128 : Shape := ⟨2, ![8, 128]⟩
abbrev S128 : Shape := ⟨1, ![128]⟩
abbrev S1x8x128 : Shape := ⟨3, ![1, 8, 128]⟩
abbrev S1 : Shape := ⟨1, ![1]⟩
abbrev S1x1x1 : Shape := ⟨3, ![1, 1, 1]⟩
abbrev S1x1x128 : Shape := ⟨3, ![1, 1, 128]⟩
abbrev S_ : Shape := ⟨0, ![]⟩

abbrev nBuf : Space → Nat
  | .hbm => 11
  | .vmem => 10
  | .smem => 2
  | _ => 0

abbrev bufTy : (tb : Table) → Fin (tcTables nBuf tb) → BufTy
  | .hbm, ⟨0, _⟩ => ⟨S512x5000, .f32⟩
  | .hbm, ⟨1, _⟩ => ⟨S512x5000, .f32⟩
  | .hbm, ⟨2, _⟩ => ⟨S512x5000, .f32⟩
  | .hbm, ⟨3, _⟩ => ⟨S512x5000, .f32⟩
  | .hbm, ⟨4, _⟩ => ⟨S5000x512, .f32⟩
  | .hbm, ⟨5, _⟩ => ⟨S5000x512, .f32⟩
  | .hbm, ⟨6, _⟩ => ⟨S5000x512, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .smem, ⟨0, _⟩ => ⟨S1x1, .f32⟩
  | .local _ .smem, ⟨1, _⟩ => ⟨S1x1, .f32⟩
  | _, _ => ⟨S512x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg3_0 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c156_i32 : BitVec 32 := 156#32
  let v3 : BitVec 32 := Scalar.addi c0_i32 c156_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v605 : BitVec 32 := Scalar.muli arg10 c32_i32
  v605
def k0_off1 (k0_t1 : Fin k0_t1_loop.trips) (c0_i32_173 : BitVec 32) : Fin 2 → Nat :=
  let c0_i32 : BitVec 32 := 0#32
  let c1_i32 : BitVec 32 := 1#32
  let arg10 : BitVec 32 := Scf.iv c0_i32 c1_i32 k0_t1
  let c32_i32 : BitVec 32 := 32#32
  let v605 : BitVec 32 := Scalar.muli arg10 c32_i32
  let v606 : BitVec 32 := v605
  let v607 : BitVec 32 := Scalar.addi v606 c0_i32_173
  let v608 : Index := Scalar.indexCast v607
  let c0_174 : Index := 0#32
  ![v608.toNat, 0]
@[reducible] def k0_t2_loop : Scf.Loop 32 :=
  let c0_i32_173 : BitVec 32 := 0#32
  let c625_i32 : BitVec 32 := 625#32
  let v605 : BitVec 32 := Scalar.addi c0_i32_173 c625_i32
  let c1_i32_174 : BitVec 32 := 1#32
  ⟨c0_i32_173, v605, c1_i32_174⟩
def k0_mult2 (k0_t2 : Fin k0_t2_loop.trips) : BitVec 32 :=
  let c0_i32_173 : BitVec 32 := 0#32
  let c1_i32_174 : BitVec 32 := 1#32
  let arg10 : BitVec 32 := Scf.iv c0_i32_173 c1_i32_174 k0_t2
  let c8_i32 : BitVec 32 := 8#32
  let v1726 : BitVec 32 := Scalar.muli arg10 c8_i32
  v1726
def k0_off2 (k0_t2 : Fin k0_t2_loop.trips) : Fin 2 → Nat :=
  let c0_i32_173 : BitVec 32 := 0#32
  let c1_i32_174 : BitVec 32 := 1#32
  let arg10 : BitVec 32 := Scf.iv c0_i32_173 c1_i32_174 k0_t2
  let c8_i32 : BitVec 32 := 8#32
  let v1726 : BitVec 32 := Scalar.muli arg10 c8_i32
  let v1727 : BitVec 32 := v1726
  let v1728 : Index := Scalar.indexCast v1727
  let c0_340 : Index := 0#32
  ![v1728.toNat, 0]
@[reducible] def k0_t3_loop : Scf.Loop 32 :=
  let c0_i32_331 : BitVec 32 := 0#32
  let c625_i32_332 : BitVec 32 := 625#32
  let v1712 : BitVec 32 := Scalar.addi c0_i32_331 c625_i32_332
  let c1_i32_333 : BitVec 32 := 1#32
  ⟨c0_i32_331, v1712, c1_i32_333⟩
def k0_mult3 (k0_t3 : Fin k0_t3_loop.trips) : BitVec 32 :=
  let c0_i32_331 : BitVec 32 := 0#32
  let c1_i32_333 : BitVec 32 := 1#32
  let arg10 : BitVec 32 := Scf.iv c0_i32_331 c1_i32_333 k0_t3
  let c8_i32 : BitVec 32 := 8#32
  let v1726 : BitVec 32 := Scalar.muli arg10 c8_i32
  v1726
def k0_off3 (k0_t3 : Fin k0_t3_loop.trips) : Fin 2 → Nat :=
  let c0_i32_331 : BitVec 32 := 0#32
  let c1_i32_333 : BitVec 32 := 1#32
  let arg10 : BitVec 32 := Scf.iv c0_i32_331 c1_i32_333 k0_t3
  let c8_i32 : BitVec 32 := 8#32
  let v1726 : BitVec 32 := Scalar.muli arg10 c8_i32
  let v1727 : BitVec 32 := v1726
  let v1728 : Index := Scalar.indexCast v1727
  let c0_340 : Index := 0#32
  ![v1728.toNat, 0]
@[reducible] def k0_t4_loop : Scf.Loop 32 :=
  let c0_i32_173 : BitVec 32 := 0#32
  let c625_i32 : BitVec 32 := 625#32
  let v605 : BitVec 32 := Scalar.addi c0_i32_173 c625_i32
  let c1_i32_174 : BitVec 32 := 1#32
  ⟨c0_i32_173, v605, c1_i32_174⟩
def k0_mult4 (k0_t4 : Fin k0_t4_loop.trips) : BitVec 32 :=
  let c0_i32_173 : BitVec 32 := 0#32
  let c1_i32_174 : BitVec 32 := 1#32
  let arg10 : BitVec 32 := Scf.iv c0_i32_173 c1_i32_174 k0_t4
  let c8_i32 : BitVec 32 := 8#32
  let v1726 : BitVec 32 := Scalar.muli arg10 c8_i32
  v1726
def k0_off4 (k0_t4 : Fin k0_t4_loop.trips) : Fin 2 → Nat :=
  let c0_i32_173 : BitVec 32 := 0#32
  let c1_i32_174 : BitVec 32 := 1#32
  let arg10 : BitVec 32 := Scf.iv c0_i32_173 c1_i32_174 k0_t4
  let c8_i32 : BitVec 32 := 8#32
  let v1726 : BitVec 32 := Scalar.muli arg10 c8_i32
  let v1727 : BitVec 32 := v1726
  let v1728 : Index := Scalar.indexCast v1727
  let c0_340 : Index := 0#32
  ![v1728.toNat, 0]
@[reducible] def k0_t5_loop : Scf.Loop 32 :=
  let c0_i32_331 : BitVec 32 := 0#32
  let c625_i32_332 : BitVec 32 := 625#32
  let v1712 : BitVec 32 := Scalar.addi c0_i32_331 c625_i32_332
  let c1_i32_333 : BitVec 32 := 1#32
  ⟨c0_i32_331, v1712, c1_i32_333⟩
def k0_mult5 (k0_t5 : Fin k0_t5_loop.trips) : BitVec 32 :=
  let c0_i32_331 : BitVec 32 := 0#32
  let c1_i32_333 : BitVec 32 := 1#32
  let arg10 : BitVec 32 := Scf.iv c0_i32_331 c1_i32_333 k0_t5
  let c8_i32 : BitVec 32 := 8#32
  let v1726 : BitVec 32 := Scalar.muli arg10 c8_i32
  v1726
def k0_off5 (k0_t5 : Fin k0_t5_loop.trips) : Fin 2 → Nat :=
  let c0_i32_331 : BitVec 32 := 0#32
  let c1_i32_333 : BitVec 32 := 1#32
  let arg10 : BitVec 32 := Scf.iv c0_i32_331 c1_i32_333 k0_t5
  let c8_i32 : BitVec 32 := 8#32
  let v1726 : BitVec 32 := Scalar.muli arg10 c8_i32
  let v1727 : BitVec 32 := v1726
  let v1728 : Index := Scalar.indexCast v1727
  let c0_340 : Index := 0#32
  ![v1728.toNat, 0]
@[reducible] def k0_t6_loop : Scf.Loop 32 :=
  let c0_i32_177 : BitVec 32 := 0#32
  let c625_i32 : BitVec 32 := 625#32
  let v607 : BitVec 32 := Scalar.addi c0_i32_177 c625_i32
  let c1_i32_178 : BitVec 32 := 1#32
  ⟨c0_i32_177, v607, c1_i32_178⟩
def k0_mult6 (k0_t6 : Fin k0_t6_loop.trips) : BitVec 32 :=
  let c0_i32_177 : BitVec 32 := 0#32
  let c1_i32_178 : BitVec 32 := 1#32
  let arg10 : BitVec 32 := Scf.iv c0_i32_177 c1_i32_178 k0_t6
  let c8_i32 : BitVec 32 := 8#32
  let v622 : BitVec 32 := Scalar.muli arg10 c8_i32
  v622
def k0_off6 (k0_t6 : Fin k0_t6_loop.trips) : Fin 2 → Nat :=
  let c0_i32_177 : BitVec 32 := 0#32
  let c1_i32_178 : BitVec 32 := 1#32
  let arg10 : BitVec 32 := Scf.iv c0_i32_177 c1_i32_178 k0_t6
  let c8_i32 : BitVec 32 := 8#32
  let v622 : BitVec 32 := Scalar.muli arg10 c8_i32
  let v623 : BitVec 32 := v622
  let v624 : Index := Scalar.indexCast v623
  let c0_186 : Index := 0#32
  ![v624.toNat, 0]
@[reducible] def k0_t7_loop : Scf.Loop 32 :=
  let c0_i32_177 : BitVec 32 := 0#32
  let c625_i32 : BitVec 32 := 625#32
  let v607 : BitVec 32 := Scalar.addi c0_i32_177 c625_i32
  let c1_i32_178 : BitVec 32 := 1#32
  ⟨c0_i32_177, v607, c1_i32_178⟩
def k0_mult7 (k0_t7 : Fin k0_t7_loop.trips) : BitVec 32 :=
  let c0_i32_177 : BitVec 32 := 0#32
  let c1_i32_178 : BitVec 32 := 1#32
  let arg10 : BitVec 32 := Scf.iv c0_i32_177 c1_i32_178 k0_t7
  let c8_i32 : BitVec 32 := 8#32
  let v636 : BitVec 32 := Scalar.muli arg10 c8_i32
  v636
def k0_off7 (k0_t7 : Fin k0_t7_loop.trips) : Fin 2 → Nat :=
  let c0_i32_177 : BitVec 32 := 0#32
  let c1_i32_178 : BitVec 32 := 1#32
  let arg10 : BitVec 32 := Scf.iv c0_i32_177 c1_i32_178 k0_t7
  let c8_i32 : BitVec 32 := 8#32
  let v636 : BitVec 32 := Scalar.muli arg10 c8_i32
  let v637 : BitVec 32 := v636
  let v638 : Index := Scalar.indexCast v637
  let c0_194 : Index := 0#32
  ![v638.toNat, 0]
def k0_cond5 (i : grid0.Coords) : BitVec 1 :=
  let arg0 : BitVec 32 := BitVec.ofNat 32 (i 0).val
  let c0_i32_169 : BitVec 32 := 0#32
  let v599 : BitVec 1 := Scalar.cmpi .eq arg0 c0_i32_169
  let v600 : BitVec 32 := Scalar.extui v599
  let c0_i32_170 : BitVec 32 := 0#32
  let v601 : BitVec 1 := Scalar.cmpi .ne v600 c0_i32_170
  v601

def k0_cond6 (i : grid0.Coords) : BitVec 1 :=
  let arg0 : BitVec 32 := BitVec.ofNat 32 (i 0).val
  let c0_i32_171 : BitVec 32 := 0#32
  let v602 : BitVec 1 := Scalar.cmpi .ne arg0 c0_i32_171
  let v603 : BitVec 32 := Scalar.extui v602
  let c0_i32_172 : BitVec 32 := 0#32
  let v604 : BitVec 1 := Scalar.cmpi .ne v603 c0_i32_172
  v604

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S512x5000 : Shape := ⟨2, ![512, 5000]⟩
abbrev S512x10 : Shape := ⟨2, ![512, 10]⟩
abbrev S512x10x1 : Shape := ⟨3, ![512, 10, 1]⟩
abbrev S1x1x5000 : Shape := ⟨3, ![1, 1, 5000]⟩
abbrev S512x10x5000 : Shape := ⟨3, ![512, 10, 5000]⟩
abbrev S_ : Shape := ⟨0, ![]⟩
abbrev S512 : Shape := ⟨1, ![512]⟩
abbrev S512x1 : Shape := ⟨2, ![512, 1]⟩

abbrev nBuf : Space → Nat
  | .hbm => 107
  | .vmem => 0
  | .smem => 0
  | _ => 0

abbrev bufTy : (tb : Table) → Fin (tcTables nBuf tb) → BufTy
  | .hbm, ⟨0, _⟩ => ⟨S512x5000, .f32⟩
  | .hbm, ⟨1, _⟩ => ⟨S512x5000, .f32⟩
  | .hbm, ⟨2, _⟩ => ⟨S512x5000, .f32⟩
  | .hbm, ⟨3, _⟩ => ⟨S512x5000, .f32⟩
  | .hbm, ⟨4, _⟩ => ⟨S512x10, .f32⟩
  | .hbm, ⟨5, _⟩ => ⟨S512x10, .i32⟩
  | .hbm, ⟨6, _⟩ => ⟨S512x10x1, .i32⟩
  | .hbm, ⟨7, _⟩ => ⟨S1x1x5000, .i32⟩
  | .hbm, ⟨8, _⟩ => ⟨S512x10x5000, .i32⟩
  | .hbm, ⟨9, _⟩ => ⟨S512x10x5000, .i32⟩
  | .hbm, ⟨10, _⟩ => ⟨S512x10x5000, .i1⟩
  | .hbm, ⟨11, _⟩ => ⟨S512x10x5000, .f32⟩
  | .hbm, ⟨12, _⟩ => ⟨S_, .f32⟩
  | .hbm, ⟨13, _⟩ => ⟨S512x5000, .f32⟩
  | .hbm, ⟨14, _⟩ => ⟨S_, .f32⟩
  | .hbm, ⟨15, _⟩ => ⟨S512x5000, .f32⟩
  | .hbm, ⟨16, _⟩ => ⟨S512x5000, .f32⟩
  | .hbm, ⟨17, _⟩ => ⟨S512x5000, .f32⟩
  | .hbm, ⟨18, _⟩ => ⟨S512x5000, .f32⟩
  | .hbm, ⟨19, _⟩ => ⟨S512x5000, .f32⟩
  | .hbm, ⟨20, _⟩ => ⟨S512x5000, .f32⟩
  | .hbm, ⟨21, _⟩ => ⟨S512x5000, .f32⟩
  | .hbm, ⟨22, _⟩ => ⟨S512x5000, .f32⟩
  | .hbm, ⟨23, _⟩ => ⟨S512x5000, .f32⟩
  | .hbm, ⟨24, _⟩ => ⟨S_, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x5000, .f32⟩
  | .hbm, ⟨30, _⟩ => ⟨S512x10, .f32⟩
  | .hbm, ⟨31, _⟩ => ⟨S512x10, .i32⟩
  | .hbm, ⟨32, _⟩ => ⟨S512x10x1, .i32⟩
  | .hbm, ⟨33, _⟩ => ⟨S1x1x5000, .i32⟩
  | .hbm, ⟨34, _⟩ => ⟨S512x10x5000, .i32⟩
  | .hbm, ⟨35, _⟩ => ⟨S512x10x5000, .i32⟩
  | .hbm, ⟨36, _⟩ => ⟨S512x10x5000, .i1⟩
  | .hbm, ⟨37, _⟩ => ⟨S512x10x5000, .f32⟩
  | .hbm, ⟨38, _⟩ => ⟨S_, .f32⟩
  | .hbm, ⟨39, _⟩ => ⟨S512x5000, .f32⟩
  | .hbm, ⟨40, _⟩ => ⟨S_, .f32⟩
  | .hbm, ⟨41, _⟩ => ⟨S512x5000, .f32⟩
  | .hbm, ⟨42, _⟩ => ⟨S512x5000, .f32⟩
  | .hbm, ⟨43, _⟩ => ⟨S512x5000, .f32⟩
  | .hbm, ⟨44, _⟩ => ⟨S512x5000, .f32⟩
  | .hbm, ⟨45, _⟩ => ⟨S512x5000, .f32⟩
  | .hbm, ⟨46, _⟩ => ⟨S512x5000, .f32⟩
  | .hbm, ⟨47, _⟩ => ⟨S512x5000, .f32⟩
  | .hbm, ⟨48, _⟩ => ⟨S512x5000, .f32⟩
  | .hbm, ⟨49, _⟩ => ⟨S512x5000, .f32⟩
  | .hbm, ⟨50, _⟩ => ⟨S_, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S512x5000, .f32⟩
  | .hbm, ⟨62, _⟩ => ⟨S512x5000, .f32⟩
  | .hbm, ⟨63, _⟩ => ⟨S512x5000, .f32⟩
  | .hbm, ⟨64, _⟩ => ⟨S_, .f32⟩
  | .hbm, ⟨65, _⟩ => ⟨S512, .f32⟩
  | .hbm, ⟨66, _⟩ => ⟨S512x1, .f32⟩
  | .hbm, ⟨67, _⟩ => ⟨S512x1, .f32⟩
  | .hbm, ⟨68, _⟩ => ⟨S512x5000, .f32⟩
  | .hbm, ⟨69, _⟩ => ⟨S512x5000, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512x1, .f32⟩
  | .hbm, ⟨76, _⟩ => ⟨S512x5000, .f32⟩
  | .hbm, ⟨77, _⟩ => ⟨S512x5000, .f32⟩
  | .hbm, ⟨78, _⟩ => ⟨S512x5000, .f32⟩
  | .hbm, ⟨79, _⟩ => ⟨S_, .f32⟩
  | .hbm, ⟨80, _⟩ => ⟨S512, .f32⟩
  | .hbm, ⟨81, _⟩ => ⟨S512x1, .f32⟩
  | .hbm, ⟨82, _⟩ => ⟨S512x5000, .f32⟩
  | .hbm, ⟨83, _⟩ => ⟨S512x5000, .f32⟩
  | .hbm, ⟨84, _⟩ => ⟨S512x5000, .f32⟩
  | .hbm, ⟨85, _⟩ => ⟨S512x5000, .f32⟩
  | .hbm, ⟨86, _⟩ => ⟨S512x5000, .f32⟩
  | .hbm, ⟨87, _⟩ => ⟨S_, .f32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S512x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_values_3 : Ref sig .tc := ⟨.hbm, 30, rfl⟩
abbrev main_indices_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_cst_8 : Ref sig .tc := ⟨.hbm, 52, rfl⟩
abbrev main_v27 : Ref sig .tc := ⟨.hbm, 53, rfl⟩
abbrev main_v28 : Ref sig .tc := ⟨.hbm, 54, rfl⟩
abbrev main_call2_cst : Ref sig .tc := ⟨.hbm, 55, rfl⟩
abbrev main_call2_v0 : Ref sig .tc := ⟨.hbm, 56, rfl⟩
abbrev main_call2_cst_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_cst_1 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_v29 : Ref sig .tc := ⟨.hbm, 69, rfl⟩
abbrev main_cst_9 : Ref sig .tc := ⟨.hbm, 70, rfl⟩
abbrev main_v30 : Ref sig .tc := ⟨.hbm, 71, rfl⟩
abbrev main_cst_10 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_11 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_12 : Ref sig .tc := ⟨.hbm, 87, rfl⟩
abbrev main_v44 : Ref sig .tc := ⟨.hbm, 88, rfl⟩
abbrev main_cst_13 : Ref sig .tc := ⟨.hbm, 89, rfl⟩
abbrev main_v45 : Ref sig .tc := ⟨.hbm, 90, rfl⟩
abbrev main_v46 : Ref sig .tc := ⟨.hbm, 91, rfl⟩
abbrev main_cst_14 : Ref sig .tc := ⟨.hbm, 92, rfl⟩
abbrev main_v47 : Ref sig .tc := ⟨.hbm, 93, rfl⟩
abbrev main_v48 : Ref sig .tc := ⟨.hbm, 94, rfl⟩
abbrev main_cst_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_16 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_17 : Ref sig .tc := ⟨.hbm, 103, rfl⟩
abbrev main_v55 : Ref sig .tc := ⟨.hbm, 104, rfl⟩
abbrev main_cst_18 : Ref sig .tc := ⟨.hbm, 105, rfl⟩
abbrev main_v56 : Ref sig .tc := ⟨.hbm, 106, rfl⟩

abbrev nD : Nat := 1
abbrev τ : Topo := Topo.v7x

variable {F : FTy → Type} [FloatOps F]
-- ==== Proof.Small.lean ====
/- The two claims that need no launch: the reference runs to its end with its arguments as they were, and the two named
   constants have the values their names say. -/
module

public import proofs.«01_k».proof.Defs
public import proofs.«01_k».proof.Proof.Gen.ReferenceIdeal.Run
public import Idealize.ShloMosaic.Lib.Quiescent

@[expose] public section

noncomputable section

namespace Cert.Small

open Idealize.ShloMosaic Idealize.SL.Sem

/-- The reference ends with its four arguments unchanged and no counter raised. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The word near 1/log 2 is named 1/log 2, and the word near log 2 is named log 2. -/
theorem preserves : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "ln2" .f32 0x3F317218#32 ((Real.log 2 : ℝ) : EReal) rfl⟩

end Cert.Small

end
-- ==== Proof.IRun.lean ====
/- One call of the kernel body, at any grid point: it runs to completion and gives every buffer back. -/
module

public import proofs.«01_k».proof.Proof.Gen.KernelIdeal.Loops
public import proofs.«01_k».proof.Proof.Gen.KernelIdeal.Frame

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A run whose next step is a branch may be followed through both arms. -/
theorem both {c : Dev nD} {E : Set ℕ} {α : Type} {C : Prop} {_ : Decidable C} {A B : Prog (TpuEff nD τ sig (Elt F) Λ₀ .tc) α}
    {P : sProp 𝕄} {Φ : α → sProp 𝕄}
    (h1 : C → Entails' P (wp frame (wpE (defs₀ (F := F)) Variants.none c none) E A Φ))
    (h2 : ¬C → Entails' P (wp frame (wpE (defs₀ (F := F)) Variants.none c none) E B Φ)) :
    Entails' P (wp frame (wpE (defs₀ (F := F)) Variants.none c none) E (if C then A else B) Φ) := by
  by_cases h : C
  · rw [if_pos h]; exact h1 h
  · rw [if_neg h]; exact h2 h

/-- A run of one program and then another is a run of the first with the second to follow. -/
theorem push {c : Dev nD} {E : Set ℕ} {α β : Type} {A : Prog (TpuEff nD τ sig (Elt F) Λ₀ .tc) β}
    {k : β → Prog (TpuEff nD τ sig (Elt F) Λ₀ .tc) α} {P : sProp 𝕄} {Φ : α → sProp 𝕄}
    (h : Entails' P (wp frame (wpE (defs₀ (F := F)) Variants.none c none) E A
      (fun b => wp frame (wpE (defs₀ (F := F)) Variants.none c none) E (k b) Φ))) :
    Entails' P (wp frame (wpE (defs₀ (F := F)) Variants.none c none) E (A >>= k) Φ) := by
  rw [wp_bind]; exact h

/-- A bit that is up is down when flipped. -/
theorem flip1 : ∀ b : BitVec 1, Scalar.cmpi .ne (Scalar.extui b : BitVec 32) 0#32 = 1#1 →
    ¬ Scalar.cmpi .ne (Scalar.extui (Scalar.xori b 1#1) : BitVec 32) 0#32 = 1#1 := by decide
/-- A bit that is down is up when flipped. -/
theorem flip0 : ∀ b : BitVec 1, ¬ Scalar.cmpi .ne (Scalar.extui b : BitVec 32) 0#32 = 1#1 →
    Scalar.cmpi .ne (Scalar.extui (Scalar.xori b 1#1) : BitVec 32) 0#32 = 1#1 := by decide

set_option maxHeartbeats 4000000 in
/-- The body at any grid point, on whole buffers: the inputs are left as they were. -/
theorem run (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole)
    (x0 : Vec F S5000x128 .f32) (x1 : Vec F S5000x128 .f32) (x2 : Vec F S5000x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part59_eq_skeleton]; unfold k0_part59_skel
  simp only [k0_part5_eq_skeleton, k0_part26_eq_skeleton]; unfold k0_part5_skel k0_part26_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  sl_exec
  refine push (both (fun hb1 => push ?_) (fun hb1 => ?_))
  on_goal 1 => sl_exec
  all_goals
    refine both (fun hb2 => push ?_) (fun hb2 => ?_)
    all_goals
      sl_exec
      refine both (fun hb3 => push ?_) (fun hb3 => ?_)
      on_goal 1 =>
        sl_exec
        refine both (fun hb4 => absurd hb4 (flip1 _ hb3)) (fun hb4 => ?_)
      on_goal 2 => refine both (fun hb4 => ?_) (fun hb4 => absurd (flip0 _ hb3) hb4)
      all_goals
        sl_exec
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _, _; isplitr; swap; · iexact H3
          ipureintro; rfl
        isplitl [H4]
        · iexists _, _; isplitr; swap; · iexact H4
          ipureintro; rfl
        isplitl [H5]
        · iexists _, _; isplitr; swap; · iexact H5
          ipureintro; rfl
        isplitl [H6]
        · iexists _, _; isplitr; swap; · iexact H6
          ipureintro; rfl
        isplitl [H7]
        · iexists _, _; isplitr; swap; · iexact H7
          ipureintro; rfl
        iexists _, _; isplitr; swap; · iexact H8
        ipureintro; rfl

end Cert.KernelIdeal.Body

end
-- ==== Proof.IFrame.lean ====
/- The frame of the kernel with its two named constants: every execution ends, the arguments are as they were, every counter is at zero. Nothing is said
   of the output here. -/
module

public import proofs.«01_k».proof.Proof.IRun
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers written on the host after the kernel. -/
def late : Finset (Ref sig .tc) := {main_cst, main_v4, main_v5}

/-- The host operations after the kernel write no other buffers. -/
theorem late_writes : ∀ ops ∈ ([hostOps1] : List (List (HloOp τ sig (Elt F)))), ∀ op ∈ ops,
    ∀ b : Ref sig .tc, Proc.devRef .tc b ∈ op.writes → b ∈ late := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.nullary_writes, StableHlo.unary_writes, StableHlo.binary_writes, StableHlo.reshape_writes, Finset.mem_singleton] at hb
    cases Proc.devRef_injective _ hb
    decide

/-- What the pipeline keeps between two grid points: the five scratch buffers and the generator register, at any contents. -/
theorem kept (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- The output window is the one nothing is said of. -/
def unsaid : Fin 4 → Bool := fun w => w.val == 3

/-- What every window holds, point by point: the inputs their blocks. -/
def looseDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are those the kernel is launched on. -/
theorem loose_A (c : Dev nD) (w : Fin cfg0.W) : (looseDats m 0 c).A w = V m c (Pipeline.arrRef spec0 w) := by
  dsimp only [looseDats]

/-- The body leaves the first input's block in place. -/
theorem loose_after0 (c : Dev nD) (t : Fin cfg0.N) : (looseDats m 0 c).after 0 t = iblk m c 0 t := by dsimp only [looseDats]
/-- The body leaves the second input's block in place. -/
theorem loose_after1 (c : Dev nD) (t : Fin cfg0.N) : (looseDats m 0 c).after 1 t = iblk m c 1 t := by dsimp only [looseDats]
/-- The body leaves the third input's block in place. -/
theorem loose_after2 (c : Dev nD) (t : Fin cfg0.N) : (looseDats m 0 c).after 2 t = iblk m c 2 t := by dsimp only [looseDats]

/-- An input window is left at its block. -/
theorem loose_leaves (c : Dev nD) (w : Fin cfg0.W) (h : ∀ t : Fin cfg0.N, cfg0.idle w (grid0.coords t) = false) (t : Fin cfg0.N) :
    (looseDats (F := F) m 0 c).leavesExact w t = owns (c : Thread nD τ) ((cfg0.win w).stage (cfg0.slots t w)) fullShare ((looseDats m 0 c).after w t) := by
  unfold Dat.leavesExact; rw [h t]

set_option maxHeartbeats 800000 in
/-- The body at any point of the grid takes the inputs' blocks and any contents of the rest, and gives all of them back. -/
theorem loose_body (c : Dev nD) (t : Fin cfg0.N) :
    iprop((looseDats m 0 c).Φ t.castSucc ∗ (looseDats m 0 c).owesAt () t.castSucc
        ∗ (∃ d, owns (c : Thread nD τ) (st0_0 t) fullShare ((looseDats m 0 c).before 0 t d))
        ∗ (∃ d, owns (c : Thread nD τ) (st0_1 t) fullShare ((looseDats m 0 c).before 1 t d))
        ∗ (∃ d, owns (c : Thread nD τ) (st0_2 t) fullShare ((looseDats m 0 c).before 2 t d))
        ∗ (∃ d, owns (c : Thread nD τ) (st0_3 t) fullShare d))
      ⊢ wp frame (wpE (defs₀ (F := F)) Variants.none c none) Set.univ (bodyAt0 t) (fun _ =>
        iprop((looseDats m 0 c).Φ t.succ ∗ (looseDats m 0 c).owesAt () t.succ
          ∗ (looseDats m 0 c).leavesExact 0 t ∗ (looseDats m 0 c).leavesExact 1 t ∗ (looseDats m 0 c).leavesExact 2 t
          ∗ (∃ d, owns (c : Thread nD τ) (st0_3 t) fullShare d))) := by
  have b0 := fun d => before0_0_of m (looseDats m 0 c) (loose_A m c 0) (loose_after0 m c) t d
  have b1 := fun d => before0_1_of m (looseDats m 0 c) (loose_A m c 1) (loose_after1 m c) t d
  have b2 := fun d => before0_2_of m (looseDats m 0 c) (loose_A m c 2) (loose_after2 m c) t d
  simp only [b0, b1, b2]
  rw [loose_leaves m c 0 (fun _ => rfl) t, loose_leaves m c 1 (fun _ => rfl) t, loose_leaves m c 2 (fun _ => rfl) t,
    loose_after0, loose_after1, loose_after2]
  rw [show (looseDats m 0 c).Φ t.succ = Pipeline.ΦA spec0 c from rfl,
    show (looseDats m 0 c).owesAt () t.succ = (looseDats m 0 c).owesAt () t.castSucc from rfl,
    show (looseDats m 0 c).Φ t.castSucc = Pipeline.ΦA spec0 c from rfl, kept]
  unfold bodyAt0
  iintro ⟨⟨⟨HS0, HS1, HS2, HS3, HS4⟩, Hg⟩, Ho, ⟨%d0, H0⟩, ⟨%d1, H1⟩, ⟨%d2, H2⟩, ⟨%d3, H3⟩⟩
  iapply (run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  iexact H3

/-- The body the pipeline calls at a point. -/
theorem invoked (t : Fin cfg0.N) : defs₀ (F := F) .tc cfg0.body (cfg0.bodyArgs t (cfg0.slots t)) = bodyAt0 t := by
  unfold defs₀; rw [Defs.onTc_tc]

/-- The body does at every point what the pipeline asks of it. -/
theorem loose_obligation (c : Dev nD) : BodyObligation (looseDats (F := F) m 0 c) (defs₀ (F := F)) Variants.none () Set.univ unsaid := fun t => by
  rw [bigSep_W0, bigSep_W0, invoked]
  exact triple_restated (loose_body m c t) rfl .rfl fun _ => .rfl

set_option backward.isDefEq.respectTransparency.types false in
set_option maxHeartbeats 800000 in
/-- The whole program ends, with all that is written neither by the kernel nor after it as the kernel found it, and the counters at zero. -/
theorem loose_run : θ_run defs (onTc (τ := τ) (main (F := F))) (s₀ m ρ) (fun r => (Pipeline.RDat.FramePostR (cfgs 0) (fun c => (looseDats m 0 c).toRForget unsaid) late (V m)) r ∧ r.2.sem = fun _ => 0) :=
  Pipeline.θ_run_frame_around_T_forget (Q' := _) cfgs (looseDats m) (0 : Fin 1) launch0 defs₀ Variants.none unsaid late m ρ main
    (hbody := fun c => (loose_obligation m c).loose) (hshare := fun c => (looseDats m 0 c).share_full fun _ => rfl)
    (howed := fun _ _ => rfl) (V₀ := V0 m) (opss := [hostOps1]) (hsub := sfx_sub) (hfresh := sfx_fresh) (hkeep := sfx_keeps) (hT := late_writes)
    (hmain := hmain m Variants.none) (hA := loose_A m) (hΦ := fun _ _ => rfl)

/-- The frame: every execution ends, the four arguments are as launched, every counter is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hs⟩ => ⟨fun c =>
    ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩, hs⟩) (loose_run m ρ)

end Cert.KernelIdeal.Body

end
-- ==== Proof.Cells.lean ====
/- Entries of blocks: what a load, a comparison, a sum and a maximum are entry by entry over the extended reals. -/
module

public import proofs.«01_k».proof.Proof.Gen.KernelIdeal.Loops
public import proofs.«01_k».proof.Proof.Gen.KernelIdeal.Frame
public import Idealize.ShloMosaic.Lib.Pipeline.Value
public import Idealize.ShloMosaic.Lib.ValueIdx
public import Idealize.ShloMosaic.Lib.ValueLayout
public import Idealize.ShloMosaic.Lib.Pipeline.ValueKit.Tiles
public import Idealize.ShloMosaic.PureOps.Ideal.Laws
public import Idealize.ShloMosaic.Lib.Tactic

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators

/-- Row `r` (counted round) and column `l` of a block. -/
def cell {F : FTy → Type} (x : Vec F S5000x128 .f32) (r : ℕ) (l : Fin 128) : F .f32 :=
  x (ix2 (⟨r % 5000, Nat.mod_lt _ (by norm_num)⟩ : Fin 5000) l)

/-- The eight rows of a block from row `r` on. -/
def rows {F : FTy → Type} (x : Vec F S5000x128 .f32) (r : ℕ) : Vec F S8x128 .f32 :=
  fun j => cell x (r + (j 0).val) (j 1)

/-- A load of eight rows inside the block reads them. -/
theorem ld_rows {F : FTy → Type} (x : Vec F S5000x128 .f32) (off : Fin 2 → ℕ) (inb) (r : ℕ) (h0 : off 0 = r) (h1 : off 1 = 0) :
    View.ld (Val := Elt F) (e' := .f32) x (Rect.unit (s := S5000x128) off S8x128.size inb) = rows x r := by
  funext j
  show x _ = x _
  congr 1
  funext a
  refine Fin.ext ((Rect.idx_unit_val (s := S5000x128) off S8x128.size inb j a).trans ?_)
  have hj : (j 0).val < 8 := (j 0).isLt
  have hb' : off 0 + 8 ≤ 5000 := inb 0
  match a with
  | ⟨0, _⟩ => show off 0 + (j 0).val = (r + (j 0).val) % 5000; rw [h0] at hb' ⊢; rw [Nat.mod_eq_of_lt (by omega)]
  | ⟨1, _⟩ => show off 1 + (j 1).val = (j 1).val; rw [h1, Nat.zero_add]

/-- An entry of eight rows. -/
theorem rows_apply {F : FTy → Type} (x : Vec F S5000x128 .f32) (r : ℕ) (s : Fin 8) (l : Fin 128) :
    rows x r (ix2 s l) = cell x (r + s.val) l := rfl

/-- A choice by a bit that says whether `p` holds. -/
theorem select_ofBool {α : Type} (p : Prop) [Decidable p] (a b : α) :
    Scalar.select (BitVec.ofBool (decide p)) a b = if p then a else b := by
  by_cases h : p <;> simp [Scalar.select, h]

/-- A row spread over eight rows. -/
theorem spread_apply (v : Vec Ideal S1x128 .f32) (s : Fin 8) (l : Fin 128) :
    broadcastTo S8x128 v broadcasts_S1x128_S8x128 (ix2 s l) = v (ix2 0 l) := by
  show v _ = v _
  congr 1; funext a; match a with | ⟨0, _⟩ => rfl | ⟨1, _⟩ => rfl

/-- The smallest 32-bit float word is the bottom. -/
theorem word_bot : Ideal.ofBits .f32 0xFF800000#32 = ⊥ := by simp [Ideal.ofBits, Ideal.ieee]
/-- The largest 32-bit float word is the top. -/
theorem word_top : Ideal.ofBits .f32 0x7F800000#32 = ⊤ := by simp [Ideal.ofBits, Ideal.ieee]

/-- A sum down the eight rows. -/
theorem sumDown (v : FVec Ideal S8x128 .f32) (h) (hφ) (hacc) (l : Fin 128) :
    shapeCast S1x128 (multiReduction .add [0] S128 v 0x00000000#32 h hφ hacc) shapeCasts_S128_S1x128 (ix2 0 l)
      = ∑ s : Fin 8, v (ix2 s l) := by
  rw [shapeCast_a_1a_apply, Ideal.multiReduction_add_single]
  refine Finset.sum_congr rfl fun k _ => congrArg v (funext fun a => ?_)
  match a with | ⟨0, _⟩ => rfl | ⟨1, _⟩ => rfl

/-- The largest of the eight rows. -/
theorem maxDown (v : FVec Ideal S8x128 .f32) (h) (hφ) (hacc) (l : Fin 128) :
    shapeCast S1x128 (multiReduction .maximumf [0] S128 v 0xFF800000#32 h hφ hacc) shapeCasts_S128_S1x128 (ix2 0 l)
      = Finset.univ.sup fun s : Fin 8 => v (ix2 s l) := by
  rw [shapeCast_a_1a_apply, Ideal.multiReduction_maximumf_single]
  show Finset.fold max (Ideal.ofBits .f32 0xFF800000#32) _ _ = _
  rw [word_bot]
  refine Finset.fold_congr fun k _ => congrArg v (funext fun a => ?_)
  match a with | ⟨0, _⟩ => rfl | ⟨1, _⟩ => rfl

/-- The smallest of the eight rows. -/
theorem minDown (v : FVec Ideal S8x128 .f32) (h) (hφ) (hacc) (l : Fin 128) :
    shapeCast S1x128 (multiReduction .minimumf [0] S128 v 0x7F800000#32 h hφ hacc) shapeCasts_S128_S1x128 (ix2 0 l)
      = Finset.univ.inf fun s : Fin 8 => v (ix2 s l) := by
  rw [shapeCast_a_1a_apply, multiReduction_minimumf_eq_fold, h.fold_filter_drop_single]
  show Finset.fold min (Ideal.ofBits .f32 0x7F800000#32) _ _ = _
  rw [word_top]
  refine Finset.fold_congr fun k _ => congrArg v (funext fun a => ?_)
  match a with | ⟨0, _⟩ => rfl | ⟨1, _⟩ => rfl

/-- The sum of all entries of eight rows. -/
theorem sumAll (v : FVec Ideal S8x128 .f32) (h) (hφ) (hacc) (h1) (h2) (h3) :
    extractAt ![0, 0, 0] (shapeCast S1x1x1 (multiReduction .add [1, 2] S1 (shapeCast S1x8x128 v h1) 0x00000000#32 h hφ hacc) h2) h3
      = ∑ s : Fin 8, ∑ l : Fin 128, v (ix2 s l) := by
  show multiReduction .add [1, 2] S1 (shapeCast S1x8x128 v h1) 0x00000000#32 h hφ hacc _ = _
  rw [Ideal.multiReduction_add_total _ _ _ (by intro b; fin_cases b; rfl)]
  refine (Equiv.sum_comp (Shape.reshapeEquiv h1) v).trans (sum_idx2 v)

/-- The sum of all entries of one row. -/
theorem sumAll1 (v : FVec Ideal S1x128 .f32) (h) (hφ) (hacc) (h1) (h2) (h3) :
    extractAt ![0, 0, 0] (shapeCast S1x1x1 (multiReduction .add [1, 2] S1 (shapeCast S1x1x128 v h1) 0x00000000#32 h hφ hacc) h2) h3
      = ∑ l : Fin 128, v (ix2 0 l) := by
  show multiReduction .add [1, 2] S1 (shapeCast S1x1x128 v h1) 0x00000000#32 h hφ hacc _ = _
  rw [Ideal.multiReduction_add_total _ _ _ (by intro b; fin_cases b; rfl)]
  refine (Equiv.sum_comp (Shape.reshapeEquiv h1) v).trans ((sum_idx2 v).trans ?_)
  rw [Fin.sum_univ_one]

/-- Everything in a block of rank three is in its reduction to one entry. -/
theorem drop_all {d : Fin 3 → ℕ} (h : (⟨3, d⟩ : Shape).Reduces [1, 2] S1) (j : S1.Idx) :
    (Finset.univ.filter fun i => h.drop i = j) = Finset.univ :=
  Finset.filter_true_of_mem fun i _ => funext fun b => Fin.ext (by
    have h1 : (h.drop i b).val < 1 := by have := (h.drop i b).isLt; fin_cases b; exact this
    have h2 : (j b).val < 1 := by have := (j b).isLt; fin_cases b; exact this
    omega)

/-- The largest of all entries of a block is at most `c` just when each is. -/
theorem maxAll_le {S : Shape} {d : Fin 3 → ℕ} (v : FVec Ideal S .f32) (h : (⟨3, d⟩ : Shape).Reduces [1, 2] S1) (hφ) (hacc)
    (h1 : S.ShapeCasts ⟨3, d⟩) (h2) (h3) (c : EReal) :
    extractAt ![0, 0, 0] (shapeCast S1x1x1 (multiReduction .maximumf [1, 2] S1 (shapeCast ⟨3, d⟩ v h1) 0xFF800000#32 h hφ hacc) h2) h3 ≤ c
      ↔ ∀ j, v j ≤ c := by
  show multiReduction .maximumf [1, 2] S1 (shapeCast ⟨3, d⟩ v h1) 0xFF800000#32 h hφ hacc _ ≤ c ↔ _
  rw [multiReduction_maximumf_eq_fold, drop_all]
  show Finset.fold max (Ideal.ofBits .f32 0xFF800000#32) (shapeCast ⟨3, d⟩ v h1) Finset.univ ≤ c ↔ _
  rw [word_bot, Finset.fold_max_le]
  exact ⟨fun H j => by have := H.2 ((Shape.reshapeEquiv h1).symm j) (Finset.mem_univ _); rwa [shapeCast, Equiv.apply_symm_apply] at this,
    fun H => ⟨bot_le, fun i _ => H _⟩⟩

/-- The smallest of all entries of a block is at least `c` just when each is. -/
theorem le_minAll {S : Shape} {d : Fin 3 → ℕ} (v : FVec Ideal S .f32) (h : (⟨3, d⟩ : Shape).Reduces [1, 2] S1) (hφ) (hacc)
    (h1 : S.ShapeCasts ⟨3, d⟩) (h2) (h3) (c : EReal) :
    c ≤ extractAt ![0, 0, 0] (shapeCast S1x1x1 (multiReduction .minimumf [1, 2] S1 (shapeCast ⟨3, d⟩ v h1) 0x7F800000#32 h hφ hacc) h2) h3
      ↔ ∀ j, c ≤ v j := by
  show c ≤ multiReduction .minimumf [1, 2] S1 (shapeCast ⟨3, d⟩ v h1) 0x7F800000#32 h hφ hacc _ ↔ _
  rw [multiReduction_minimumf_eq_fold, drop_all]
  show c ≤ Finset.fold min (Ideal.ofBits .f32 0x7F800000#32) (shapeCast ⟨3, d⟩ v h1) Finset.univ ↔ _
  rw [word_top, Finset.le_fold_min]
  exact ⟨fun H j => by have := H.2 ((Shape.reshapeEquiv h1).symm j) (Finset.mem_univ _); rwa [shapeCast, Equiv.apply_symm_apply] at this,
    fun H => ⟨le_top, fun i _ => H _⟩⟩

end Cert.KernelIdeal.Body

end
-- ==== Proof.Order.lean ====
/- Keeping the largest few of a stream: inserting into a short ordered list, and what it says of counts. -/
module

public import Idealize.ShloMosaic.Lib.ValueIdx

@[expose] public section

namespace Cert.Order

variable {α : Type}

/-- Insert `x` into a list held in order: each place keeps `mx` of the two and hands `mn` on. -/
def ins (mx mn : α → α → α) : List α → α → List α
  | [], _ => []
  | a :: as, x => mx a x :: ins mx mn as (mn a x)

/-- Insert from place `k` on. -/
def insFrom (mx mn : α → α → α) : ℕ → List α → α → List α
  | 0, as, x => ins mx mn as x
  | _ + 1, [], _ => []
  | k + 1, a :: as, x => a :: insFrom mx mn k as x

/-- The list shows how many of the stream satisfy `p`, as far as it is long: the entry at place `d`
    satisfies `p` just when more than `d` of the stream do. -/
def Shows (p : α → Prop) : List α → ℕ → Prop
  | [], _ => True
  | a :: as, n => (p a ↔ 0 < n) ∧ Shows p as (n - 1)

/-- One more if `p` holds. -/
def one (p : Prop) [Decidable p] : ℕ := if p then 1 else 0

variable {p : α → Prop} [DecidablePred p] {mx mn : α → α → α}

/-- Inserting counts the new entry. -/
theorem Shows.ins (hx : ∀ a b, p (mx a b) ↔ p a ∨ p b) (hn : ∀ a b, p (mn a b) ↔ p a ∧ p b) :
    ∀ (as : List α) (n : ℕ) (x : α), Shows p as n → Shows p (ins mx mn as x) (n + one (p x))
  | [], _, _, _ => trivial
  | a :: as, n, x, ⟨h1, h2⟩ => by
    refine ⟨?_, ?_⟩
    · rw [hx, h1]; unfold one; split <;> simp_all
    · have := Shows.ins hx hn as (n - 1) (mn a x) h2
      have e : n - 1 + one (p (mn a x)) = n + one (p x) - 1 := by
        unfold one
        simp only [hn, h1]
        by_cases hp : p x <;> by_cases h0 : 0 < n <;> simp [hp, h0] <;> omega
      rwa [e] at this

/-- Inserting from a place on counts the new entry too, if that many already satisfy `p` whenever it does. -/
theorem Shows.insFrom (hx : ∀ a b, p (mx a b) ↔ p a ∨ p b) (hn : ∀ a b, p (mn a b) ↔ p a ∧ p b) :
    ∀ (k : ℕ) (as : List α) (n : ℕ) (x : α), Shows p as n → (p x → k ≤ n) → Shows p (insFrom mx mn k as x) (n + one (p x))
  | 0, as, n, x, h, _ => Shows.ins hx hn as n x h
  | _ + 1, [], _, _, _, _ => trivial
  | k + 1, a :: as, n, x, ⟨h1, h2⟩, hk => by
    refine ⟨?_, ?_⟩
    · rw [h1]; unfold one; split
      · have := hk ‹_›; omega
      · rfl
    · have := Shows.insFrom hx hn k as (n - 1) x h2 fun hp => by have := hk hp; omega
      have e : n - 1 + one (p x) = n + one (p x) - 1 := by
        unfold one
        split
        · have := hk ‹_›; omega
        · rfl
      rwa [e] at this

/-- Four entries put in order by five exchanges. -/
def four (mx mn : α → α → α) (y0 y1 y2 y3 : α) : α × α × α × α :=
  (mx (mx y0 y1) (mx y2 y3), mx (mn (mx y0 y1) (mx y2 y3)) (mx (mn y0 y1) (mn y2 y3)),
    mn (mn (mx y0 y1) (mx y2 y3)) (mx (mn y0 y1) (mn y2 y3)), mn (mn y0 y1) (mn y2 y3))

/-- Four ordered entries inserted one after another, each from its own place on. -/
def insFour (mx mn : α → α → α) (as : List α) (s : α × α × α × α) : List α :=
  insFrom mx mn 3 (insFrom mx mn 2 (insFrom mx mn 1 (ins mx mn as s.1) s.2.1) s.2.2.1) s.2.2.2

/-- The number of four entries that satisfy `p`. -/
def ones (p : α → Prop) [DecidablePred p] (y0 y1 y2 y3 : α) : ℕ := one (p y0) + one (p y1) + one (p y2) + one (p y3)

/-- Inserting four entries in order counts them all. -/
theorem Shows.insFour (hx : ∀ a b, p (mx a b) ↔ p a ∨ p b) (hn : ∀ a b, p (mn a b) ↔ p a ∧ p b)
    (as : List α) (n : ℕ) (s : α × α × α × α) (c : ℕ) (h : Shows p as n)
    (h0 : p s.1 ↔ 0 < c) (h1 : p s.2.1 ↔ 1 < c) (h2 : p s.2.2.1 ↔ 2 < c) (h3 : p s.2.2.2 ↔ 3 < c) (hc : c ≤ 4) :
    Shows p (Order.insFour mx mn as s) (n + c) := by
  have e : n + c = n + one (p s.1) + one (p s.2.1) + one (p s.2.2.1) + one (p s.2.2.2) := by
    unfold one; simp only [h0, h1, h2, h3]
    split <;> split <;> split <;> split <;> omega
  rw [e]
  refine Shows.insFrom hx hn 3 _ _ _ (Shows.insFrom hx hn 2 _ _ _ (Shows.insFrom hx hn 1 _ _ _ (Shows.ins hx hn _ _ _ h) ?_) ?_) ?_
  all_goals
    intro hp; unfold one; simp only [h0, h1, h2, h3] at hp ⊢
    (repeat' split) <;> omega

/-- The order of four entries shows how many satisfy `p`. -/
theorem four_shows (hx : ∀ a b, p (mx a b) ↔ p a ∨ p b) (hn : ∀ a b, p (mn a b) ↔ p a ∧ p b) (y0 y1 y2 y3 : α) :
    (p (four mx mn y0 y1 y2 y3).1 ↔ 0 < ones p y0 y1 y2 y3) ∧ (p (four mx mn y0 y1 y2 y3).2.1 ↔ 1 < ones p y0 y1 y2 y3)
    ∧ (p (four mx mn y0 y1 y2 y3).2.2.1 ↔ 2 < ones p y0 y1 y2 y3) ∧ (p (four mx mn y0 y1 y2 y3).2.2.2 ↔ 3 < ones p y0 y1 y2 y3)
    ∧ ones p y0 y1 y2 y3 ≤ 4 := by
  simp only [four, hx, hn, ones, one]
  by_cases h0 : p y0 <;> by_cases h1 : p y1 <;> by_cases h2 : p y2 <;> by_cases h3 : p y3 <;> simp [h0, h1, h2, h3]

/-- The same with the two exchanged, read from the other end. -/
theorem four_shows' (hx : ∀ a b, p (mx a b) ↔ p a ∧ p b) (hn : ∀ a b, p (mn a b) ↔ p a ∨ p b) (y0 y1 y2 y3 : α) :
    (p (four mx mn y0 y1 y2 y3).2.2.2 ↔ 0 < ones p y0 y1 y2 y3) ∧ (p (four mx mn y0 y1 y2 y3).2.2.1 ↔ 1 < ones p y0 y1 y2 y3)
    ∧ (p (four mx mn y0 y1 y2 y3).2.1 ↔ 2 < ones p y0 y1 y2 y3) ∧ (p (four mx mn y0 y1 y2 y3).1 ↔ 3 < ones p y0 y1 y2 y3)
    ∧ ones p y0 y1 y2 y3 ≤ 4 := by
  simp only [four, hx, hn, ones, one]
  by_cases h0 : p y0 <;> by_cases h1 : p y1 <;> by_cases h2 : p y2 <;> by_cases h3 : p y3 <;> simp [h0, h1, h2, h3]

end Cert.Order
-- ==== Proof.Sweep1.lean ====
/- The first sweep: its five sums, and the largest and smallest four of each cell's stream. -/
module

public import proofs.«01_k».proof.Proof.Cells
public import proofs.«01_k».proof.Proof.Order

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- The named constant for `1 / log 2`. -/
abbrev q : EReal := (Named.named κ "inv_ln2" 0x3FB8AA3B#32 : Ideal .f32)
/-- The exponential as the kernel takes it. -/
def ex (v : EReal) : EReal := Ideal.exp2 (v * q)
/-- The logarithm of one more, to the base two. -/
def lg (v : EReal) : EReal := Ideal.log (Ideal.ofBits .f32 0x3F800000#32 + ex v) * q
/-- Half the same. -/
def lgh (v : EReal) : EReal := Ideal.ofBits .f32 0x3F000000#32 * lg v

/-- A trip's row offset in the first sweep. -/
theorem off32 (k : ℕ) (hk : k < 156) (t : ℕ) (ht : t < 25) :
    BitVec.toNat (Scalar.indexCast (Scalar.addi (Scalar.muli (Scf.iv (0#32 : BitVec 32) 1#32 k) 32#32) (BitVec.ofNat 32 t))) = 8 * (4 * k) + t := by
  show (BitVec.toNat ((0#32 + BitVec.ofNat 32 k * 1#32) * 32#32 + BitVec.ofNat 32 t)) = _
  rw [BitVec.toNat_add, BitVec.toNat_mul, BitVec.toNat_add, BitVec.toNat_mul, BitVec.toNat_ofNat, BitVec.toNat_ofNat, BitVec.toNat_ofNat, BitVec.toNat_ofNat, BitVec.toNat_ofNat]
  omega

/-- A load inside a trip of the first sweep. -/
theorem ld32 {F : FTy → Type} (x : Vec F S5000x128 .f32) (k : ℕ) (hk : k < 156) (t : ℕ) (ht : t < 25) (inb) :
    View.ld (Val := Elt F) (e' := .f32) x (Rect.unit (s := S5000x128)
      ![BitVec.toNat (Scalar.indexCast (Scalar.addi (Scalar.muli (Scf.iv (0#32 : BitVec 32) 1#32 k) 32#32) (BitVec.ofNat 32 t))), 0] ![8, 128] inb)
      = rows x (8 * (4 * k) + t) := ld_rows x _ inb _ (off32 k hk t ht) rfl

section
variable (a b c e : FVec Ideal S8x128 .f32) (y0 y1 y2 y3 u0 u1 u2 u3 d0 d1 d2 d3 : Vec Ideal S8x128 .f32) (s : Fin 8) (l : Fin 128)

/-- The sum of logarithms after four more rows, at one cell. -/
theorem f4 : k0_pay36 (Ideal.ofBits .f32 0x3F000000#32) (k0_pay26 q (Ideal.ofBits .f32 0x3F000000#32) (k0_pay17 q (Ideal.ofBits .f32 0x3F000000#32)
      (k0_pay8 q (Ideal.ofBits .f32 0x3F000000#32) a u0 d0) u1 d1) (k0_pay22 u2) d2) (k0_pay32 q u3) (k0_pay33 q d3) (ix2 s l)
    = a (ix2 s l) + lg (u0 (ix2 s l)) + lgh (d0 (ix2 s l)) + lg (u1 (ix2 s l)) + lgh (d1 (ix2 s l)) + lg (u2 (ix2 s l)) + lgh (d2 (ix2 s l))
      + lg (u3 (ix2 s l)) + lgh (d3 (ix2 s l)) := by
  simp only [k0_pay36, k0_pay26, k0_pay17, k0_pay8, k0_pay22, k0_pay32, k0_pay33, k0_pay5, k0_pay4, k0_pay14, k0_pay13, k0_pay23, k0_pay31, shapeCast_self]
  rfl

/-- The sum of exponentials after four more rows, at one cell. -/
theorem sy4 : k0_pay37 q (k0_pay27 q (k0_pay18 q (k0_pay9 q a y0) y1) (k0_pay21 y2)) (k0_pay30 y3) (ix2 s l)
    = a (ix2 s l) + ex (y0 (ix2 s l)) + ex (y1 (ix2 s l)) + ex (y2 (ix2 s l)) + ex (y3 (ix2 s l)) := by
  simp only [k0_pay37, k0_pay27, k0_pay18, k0_pay9, k0_pay21, k0_pay30, k0_pay6, k0_pay3, k0_pay15, k0_pay12, k0_pay24, k0_pay34, shapeCast_self]
  rfl

/-- The sum of entries weighted by their exponentials after four more rows, at one cell. -/
theorem eyy4 : k0_pay38 q (k0_pay28 q (k0_pay19 q (k0_pay10 q a y0) y1) (k0_pay21 y2)) (k0_pay30 y3) (ix2 s l)
    = a (ix2 s l) + ex (y0 (ix2 s l)) * y0 (ix2 s l) + ex (y1 (ix2 s l)) * y1 (ix2 s l) + ex (y2 (ix2 s l)) * y2 (ix2 s l)
      + ex (y3 (ix2 s l)) * y3 (ix2 s l) := by
  simp only [k0_pay38, k0_pay28, k0_pay19, k0_pay10, k0_pay21, k0_pay30, k0_pay6, k0_pay3, k0_pay15, k0_pay12, k0_pay24, k0_pay34, shapeCast_self]
  rfl

/-- The sum of the first operand's entries so weighted after four more rows, at one cell. -/
theorem eyu4 : k0_pay39 q (k0_pay29 q (k0_pay20 q (k0_pay11 q a y0 u0) y1 u1) (k0_pay21 y2) (k0_pay22 u2)) (k0_pay30 y3) (k0_pay31 u3) (ix2 s l)
    = a (ix2 s l) + ex (y0 (ix2 s l)) * u0 (ix2 s l) + ex (y1 (ix2 s l)) * u1 (ix2 s l) + ex (y2 (ix2 s l)) * u2 (ix2 s l)
      + ex (y3 (ix2 s l)) * u3 (ix2 s l) := by
  simp only [k0_pay39, k0_pay29, k0_pay20, k0_pay11, k0_pay21, k0_pay30, k0_pay22, k0_pay31, k0_pay6, k0_pay3, k0_pay4, k0_pay13, k0_pay15, k0_pay12, k0_pay24, k0_pay34, shapeCast_self]
  rfl

/-- The sum of the first operand's exponentials after four more rows, at one cell. -/
theorem su4 : k0_pay35 (k0_pay25 q (k0_pay16 q (k0_pay7 q a u0) u1) (k0_pay22 u2)) (k0_pay32 q u3) (ix2 s l)
    = a (ix2 s l) + ex (u0 (ix2 s l)) + ex (u1 (ix2 s l)) + ex (u2 (ix2 s l)) + ex (u3 (ix2 s l)) := by
  simp only [k0_pay35, k0_pay25, k0_pay16, k0_pay7, k0_pay22, k0_pay32, k0_pay5, k0_pay4, k0_pay14, k0_pay13, k0_pay23, k0_pay31, shapeCast_self]
  rfl

/-- The four largest after four more rows, at one cell. -/
theorem hi4 : [k0_pay50 a (k0_pay3 y0) (k0_pay12 y1) (k0_pay21 y2) (k0_pay30 y3) (ix2 s l),
      k0_pay55 a b (k0_pay3 y0) (k0_pay12 y1) (k0_pay21 y2) (k0_pay30 y3) (ix2 s l),
      k0_pay58 a b c (k0_pay3 y0) (k0_pay12 y1) (k0_pay21 y2) (k0_pay30 y3) (ix2 s l),
      k0_pay59 a b c e (k0_pay3 y0) (k0_pay12 y1) (k0_pay21 y2) (k0_pay30 y3) (ix2 s l)]
    = insFour max min [a (ix2 s l), b (ix2 s l), c (ix2 s l), e (ix2 s l)]
        (four max min (y0 (ix2 s l)) (y1 (ix2 s l)) (y2 (ix2 s l)) (y3 (ix2 s l))) := by
  have c3 : k0_pay3 y0 = y0 := shapeCast_self ..
  have c12 : k0_pay12 y1 = y1 := shapeCast_self ..
  have c21 : k0_pay21 y2 = y2 := shapeCast_self ..
  have c30 : k0_pay30 y3 = y3 := shapeCast_self ..
  rw [c3, c12, c21, c30]
  rfl

/-- The four smallest after four more rows, at one cell. -/
theorem lo4 : [k0_pay60 a (k0_pay3 y0) (k0_pay12 y1) (k0_pay21 y2) (k0_pay30 y3) (ix2 s l),
      k0_pay311 (k0_pay49 (k0_pay3 y0) (k0_pay12 y1) (k0_pay21 y2) (k0_pay30 y3)) (k0_pay62 a b (k0_pay3 y0) (k0_pay12 y1) (k0_pay21 y2) (k0_pay30 y3)) (ix2 s l),
      k0_pay314 (k0_pay48 (k0_pay3 y0) (k0_pay12 y1) (k0_pay21 y2) (k0_pay30 y3)) (k0_pay49 (k0_pay3 y0) (k0_pay12 y1) (k0_pay21 y2) (k0_pay30 y3))
        (k0_pay62 a b (k0_pay3 y0) (k0_pay12 y1) (k0_pay21 y2) (k0_pay30 y3)) (k0_pay64 a b c (k0_pay3 y0) (k0_pay12 y1) (k0_pay21 y2) (k0_pay30 y3)) (ix2 s l),
      k0_pay315 e (k0_pay44 (k0_pay3 y0) (k0_pay12 y1) (k0_pay21 y2) (k0_pay30 y3)) (k0_pay48 (k0_pay3 y0) (k0_pay12 y1) (k0_pay21 y2) (k0_pay30 y3))
        (k0_pay49 (k0_pay3 y0) (k0_pay12 y1) (k0_pay21 y2) (k0_pay30 y3)) (k0_pay62 a b (k0_pay3 y0) (k0_pay12 y1) (k0_pay21 y2) (k0_pay30 y3))
        (k0_pay64 a b c (k0_pay3 y0) (k0_pay12 y1) (k0_pay21 y2) (k0_pay30 y3)) (k0_pay65 a b c (k0_pay3 y0) (k0_pay12 y1) (k0_pay21 y2) (k0_pay30 y3)) (ix2 s l)]
    = insFour min max [a (ix2 s l), b (ix2 s l), c (ix2 s l), e (ix2 s l)]
        ((four max min (y0 (ix2 s l)) (y1 (ix2 s l)) (y2 (ix2 s l)) (y3 (ix2 s l))).2.2.2,
         (four max min (y0 (ix2 s l)) (y1 (ix2 s l)) (y2 (ix2 s l)) (y3 (ix2 s l))).2.2.1,
         (four max min (y0 (ix2 s l)) (y1 (ix2 s l)) (y2 (ix2 s l)) (y3 (ix2 s l))).2.1,
         (four max min (y0 (ix2 s l)) (y1 (ix2 s l)) (y2 (ix2 s l)) (y3 (ix2 s l))).1) := by
  have c3 : k0_pay3 y0 = y0 := shapeCast_self ..
  have c12 : k0_pay12 y1 = y1 := shapeCast_self ..
  have c21 : k0_pay21 y2 = y2 := shapeCast_self ..
  have c30 : k0_pay30 y3 = y3 := shapeCast_self ..
  rw [c3, c12, c21, c30]
  rfl
end

set_option maxHeartbeats 4000000 in
/-- One trip of the first sweep, at one cell: the sums. -/
theorem trip1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) (k : Fin k0_t1_loop.trips) (acc) (s : Fin 8) (l : Fin 128) :
    let R := tripR_k0_t1 Variants.none c none i arg1 harg1 arg2 harg2 arg3 harg3 arg4 harg4 arg5 harg5 arg6 harg6 arg7 harg7 arg8 harg8 arg9 harg9 q (Ideal.ofBits .f32 0x3F000000#32) (harg1.unread x0) (harg2.unread x1) (harg3.unread x2) k acc
    let y := fun b => cell x2 (8 * (4 * k.val) + 8 * b + s.val) l
    let u := fun b => cell x0 (8 * (4 * k.val) + 8 * b + s.val) l
    let d := fun b => cell x1 (8 * (4 * k.val) + 8 * b + s.val) l
    let z := four max min (y 0) (y 1) (y 2) (y 3)
    R.1 (ix2 s l) = acc.1 (ix2 s l) + lg (u 0) + lgh (d 0) + lg (u 1) + lgh (d 1) + lg (u 2) + lgh (d 2) + lg (u 3) + lgh (d 3)
    ∧ R.2.1 (ix2 s l) = acc.2.1 (ix2 s l) + ex (y 0) + ex (y 1) + ex (y 2) + ex (y 3)
    ∧ R.2.2.1 (ix2 s l) = acc.2.2.1 (ix2 s l) + ex (y 0) * y 0 + ex (y 1) * y 1 + ex (y 2) * y 2 + ex (y 3) * y 3
    ∧ R.2.2.2.1 (ix2 s l) = acc.2.2.2.1 (ix2 s l) + ex (y 0) * u 0 + ex (y 1) * u 1 + ex (y 2) * u 2 + ex (y 3) * u 3
    ∧ R.2.2.2.2.1 (ix2 s l) = acc.2.2.2.2.1 (ix2 s l) + ex (u 0) + ex (u 1) + ex (u 2) + ex (u 3)
    ∧ [R.2.2.2.2.2.1 (ix2 s l), R.2.2.2.2.2.2.1 (ix2 s l), R.2.2.2.2.2.2.2.1 (ix2 s l), R.2.2.2.2.2.2.2.2.1 (ix2 s l)]
      = insFour max min [acc.2.2.2.2.2.1 (ix2 s l), acc.2.2.2.2.2.2.1 (ix2 s l), acc.2.2.2.2.2.2.2.1 (ix2 s l), acc.2.2.2.2.2.2.2.2.1 (ix2 s l)] z
    ∧ [R.2.2.2.2.2.2.2.2.2.1 (ix2 s l), R.2.2.2.2.2.2.2.2.2.2.1 (ix2 s l), R.2.2.2.2.2.2.2.2.2.2.2.1 (ix2 s l), R.2.2.2.2.2.2.2.2.2.2.2.2 (ix2 s l)]
      = insFour min max [acc.2.2.2.2.2.2.2.2.2.1 (ix2 s l), acc.2.2.2.2.2.2.2.2.2.2.1 (ix2 s l), acc.2.2.2.2.2.2.2.2.2.2.2.1 (ix2 s l), acc.2.2.2.2.2.2.2.2.2.2.2.2 (ix2 s l)]
          (z.2.2.2, z.2.2.1, z.2.1, z.1) := by
  intro R y u d z
  have hk : k.val < 156 := Nat.lt_of_lt_of_le k.isLt k0_t1_abs.2.1
  unfold R tripR_k0_t1 trip_k0_t1
  dsimp only
  sl_unfold_words
  simp only [View.readAt_eq_ld, harg1.read_unread, harg2.read_unread, harg3.read_unread]
  erw [ld32 x0 k.val hk 0 (by norm_num)]
  erw [ld32 x0 k.val hk 8 (by norm_num)]
  erw [ld32 x0 k.val hk 16 (by norm_num)]
  erw [ld32 x0 k.val hk 24 (by norm_num)]
  erw [ld32 x1 k.val hk 0 (by norm_num)]
  erw [ld32 x1 k.val hk 8 (by norm_num)]
  erw [ld32 x1 k.val hk 16 (by norm_num)]
  erw [ld32 x1 k.val hk 24 (by norm_num)]
  erw [ld32 x2 k.val hk 0 (by norm_num)]
  erw [ld32 x2 k.val hk 8 (by norm_num)]
  erw [ld32 x2 k.val hk 16 (by norm_num)]
  erw [ld32 x2 k.val hk 24 (by norm_num)]
  exact ⟨f4 .., sy4 .., eyy4 .., eyu4 .., su4 .., hi4 .., lo4 ..⟩

end Cert.KernelIdeal.Body

end
-- ==== Proof.Base.lean ====
/- What the first sweep holds after all its trips and the last eight rows. -/
module

public import proofs.«01_k».proof.Proof.Sweep1
public import proofs.«01_k».proof.Proof.IRun

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- `p` holds of everything above what it holds of. -/
def Up (p : EReal → Prop) : Prop := ∀ a b, a ≤ b → p a → p b
/-- `p` holds of everything below what it holds of. -/
def Down (p : EReal → Prop) : Prop := ∀ a b, a ≤ b → p b → p a

/-- The larger of two has an upward property just when one of them has. -/
theorem Up.max {p : EReal → Prop} (h : Up p) (a b : EReal) : p (max a b) ↔ p a ∨ p b := by
  rcases le_total a b with H | H
  · rw [max_eq_right H]; exact ⟨Or.inr, fun h' => h'.elim (h _ _ H) id⟩
  · rw [max_eq_left H]; exact ⟨Or.inl, fun h' => h'.elim id (h _ _ H)⟩
/-- The smaller of two has an upward property just when both have. -/
theorem Up.min {p : EReal → Prop} (h : Up p) (a b : EReal) : p (min a b) ↔ p a ∧ p b := by
  rcases le_total a b with H | H
  · rw [min_eq_left H]; exact ⟨fun h' => ⟨h', h _ _ H h'⟩, And.left⟩
  · rw [min_eq_right H]; exact ⟨fun h' => ⟨h _ _ H h', h'⟩, And.right⟩
/-- The smaller of two has a downward property just when one of them has. -/
theorem Down.min {p : EReal → Prop} (h : Down p) (a b : EReal) : p (min a b) ↔ p a ∨ p b := by
  rcases le_total a b with H | H
  · rw [min_eq_left H]; exact ⟨Or.inl, fun h' => h'.elim id (h _ _ H)⟩
  · rw [min_eq_right H]; exact ⟨Or.inr, fun h' => h'.elim (h _ _ H) id⟩
/-- The larger of two has a downward property just when both have. -/
theorem Down.max {p : EReal → Prop} (h : Down p) (a b : EReal) : p (max a b) ↔ p a ∧ p b := by
  rcases le_total a b with H | H
  · rw [max_eq_right H]; exact ⟨fun h' => ⟨h _ _ H h', h'⟩, And.right⟩
  · rw [max_eq_left H]; exact ⟨fun h' => ⟨h', h _ _ H h'⟩, And.left⟩

/-- The number of the first `n` entries of a cell's stream that satisfy `p`. -/
def many (p : EReal → Prop) [DecidablePred p] (x : Vec Ideal S5000x128 .f32) (s : Fin 8) (l : Fin 128) (n : ℕ) : ℕ :=
  ∑ b ∈ Finset.range n, one (p (cell x (8 * b + s.val) l))

/-- Four more terms of a sum. -/
theorem sum_four {M : Type} [AddCommMonoid M] (g : ℕ → M) (n : ℕ) :
    ∑ b ∈ Finset.range (4 * (n + 1)), g b = ∑ b ∈ Finset.range (4 * n), g b + g (4 * n) + g (4 * n + 1) + g (4 * n + 2) + g (4 * n + 3) := by
  rw [show 4 * (n + 1) = 4 * n + 1 + 1 + 1 + 1 by ring, Finset.sum_range_succ, Finset.sum_range_succ, Finset.sum_range_succ, Finset.sum_range_succ]

/-- What thirteen blocks hold at a cell once `n` blocks of eight rows are in. -/
structure Held (x0 x1 x2 : Vec Ideal S5000x128 .f32) (s : Fin 8) (l : Fin 128) (n : ℕ) (f sy eyy eyu su h0 h1 h2 h3 l0 l1 l2 l3 : EReal) : Prop where
  f : f = ∑ b ∈ Finset.range n, (lg (cell x0 (8 * b + s.val) l) + lgh (cell x1 (8 * b + s.val) l))
  sy : sy = ∑ b ∈ Finset.range n, ex (cell x2 (8 * b + s.val) l)
  eyy : eyy = ∑ b ∈ Finset.range n, ex (cell x2 (8 * b + s.val) l) * cell x2 (8 * b + s.val) l
  eyu : eyu = ∑ b ∈ Finset.range n, ex (cell x2 (8 * b + s.val) l) * cell x0 (8 * b + s.val) l
  su : su = ∑ b ∈ Finset.range n, ex (cell x0 (8 * b + s.val) l)
  hi : ∀ p [DecidablePred p], Up p → ¬ p ⊥ → Shows p [h0, h1, h2, h3] (many p x2 s l n)
  lo : ∀ p [DecidablePred p], Down p → ¬ p ⊤ → Shows p [l0, l1, l2, l3] (many p x2 s l n)

set_option maxHeartbeats 1000000 in
/-- The first sweep before each trip. -/
theorem sweep1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) (s : Fin 8) (l : Fin 128) (n : ℕ) (hn : n ≤ 156) :
    ∀ S, S = st_k0_t1 Variants.none c none i arg1 harg1 arg2 harg2 arg3 harg3 arg4 harg4 arg5 harg5 arg6 harg6 arg7 harg7 arg8 harg8 arg9 harg9 q (Ideal.ofBits .f32 0x3F000000#32) (harg1.unread x0) (harg2.unread x1) (harg3.unread x2)
      (k0_pay308, k0_pay308, k0_pay308, k0_pay308, k0_pay308, k0_pay309, k0_pay309, k0_pay309, k0_pay309, k0_pay310, k0_pay310, k0_pay310, k0_pay310) n →
    Held x0 x1 x2 s l (4 * n) (S.1 (ix2 s l)) (S.2.1 (ix2 s l)) (S.2.2.1 (ix2 s l)) (S.2.2.2.1 (ix2 s l)) (S.2.2.2.2.1 (ix2 s l))
      (S.2.2.2.2.2.1 (ix2 s l)) (S.2.2.2.2.2.2.1 (ix2 s l)) (S.2.2.2.2.2.2.2.1 (ix2 s l)) (S.2.2.2.2.2.2.2.2.1 (ix2 s l))
      (S.2.2.2.2.2.2.2.2.2.1 (ix2 s l)) (S.2.2.2.2.2.2.2.2.2.2.1 (ix2 s l)) (S.2.2.2.2.2.2.2.2.2.2.2.1 (ix2 s l)) (S.2.2.2.2.2.2.2.2.2.2.2.2 (ix2 s l)) := by
  induction n with
  | zero =>
    intro S hS
    rw [st_k0_t1_zero] at hS
    subst hS
    have z0 : (k0_pay308 : FVec Ideal S8x128 .f32) (ix2 s l) = 0 := Ideal.ofBits_zero_f32
    have z1 : (k0_pay309 : FVec Ideal S8x128 .f32) (ix2 s l) = ⊥ := word_bot
    have z2 : (k0_pay310 : FVec Ideal S8x128 .f32) (ix2 s l) = ⊤ := word_top
    refine ⟨z0, z0, z0, z0, z0, fun p _ h hp => ?_, fun p _ h hp => ?_⟩
    · dsimp only; rw [z1]; simp [Shows, many, hp]
    · dsimp only; rw [z2]; simp [Shows, many, hp]
  | succ n ih =>
    intro S hS
    have hlt : n < k0_t1_loop.trips := lt_of_lt_of_eq (by omega : n < 156) (by decide)
    rw [st_k0_t1_succ (k := ⟨n, hlt⟩)] at hS
    subst hS
    have IH := ih (by omega) _ rfl
    obtain ⟨t1, t2, t3, t4, t5, t6, t7⟩ := trip1 c i arg1 harg1 arg2 harg2 arg3 harg3 arg4 harg4 arg5 harg5 arg6 harg6 arg7 harg7 arg8 harg8 arg9 harg9 x0 x1 x2 ⟨n, hlt⟩
      (st_k0_t1 Variants.none c none i arg1 harg1 arg2 harg2 arg3 harg3 arg4 harg4 arg5 harg5 arg6 harg6 arg7 harg7 arg8 harg8 arg9 harg9 q (Ideal.ofBits .f32 0x3F000000#32) (harg1.unread x0) (harg2.unread x1) (harg3.unread x2)
      (k0_pay308, k0_pay308, k0_pay308, k0_pay308, k0_pay308, k0_pay309, k0_pay309, k0_pay309, k0_pay309, k0_pay310, k0_pay310, k0_pay310, k0_pay310) n) s l
    have e : ∀ b, 8 * (4 * n) + 8 * b + s.val = 8 * (4 * n + b) + s.val := fun b => by omega
    simp only [e] at t1 t2 t3 t4 t5 t6 t7
    have hm : ∀ (p : EReal → Prop) [DecidablePred p], many p x2 s l (4 * (n + 1)) = many p x2 s l (4 * n)
        + ones p (cell x2 (8 * (4 * n + 0) + s.val) l) (cell x2 (8 * (4 * n + 1) + s.val) l) (cell x2 (8 * (4 * n + 2) + s.val) l) (cell x2 (8 * (4 * n + 3) + s.val) l) := by
      intro p _; unfold many ones; rw [sum_four]; simp only [add_assoc]; rfl
    refine ⟨t1.trans ?_, t2.trans ?_, t3.trans ?_, t4.trans ?_, t5.trans ?_, fun p _ h hp => ?_, fun p _ h hp => ?_⟩
    · rw [IH.f, sum_four]; simp only [← add_assoc]; rfl
    · rw [IH.sy, sum_four]; rfl
    · rw [IH.eyy, sum_four]; rfl
    · rw [IH.eyu, sum_four]; rfl
    · rw [IH.su, sum_four]; rfl
    · rw [t6, hm]
      obtain ⟨a0, a1, a2, a3, a4⟩ := four_shows h.max h.min (cell x2 (8 * (4 * n + 0) + s.val) l) (cell x2 (8 * (4 * n + 1) + s.val) l) (cell x2 (8 * (4 * n + 2) + s.val) l) (cell x2 (8 * (4 * n + 3) + s.val) l)
      exact Shows.insFour h.max h.min _ _ _ _ (IH.hi p h hp) a0 a1 a2 a3 a4
    · rw [t7, hm]
      obtain ⟨a0, a1, a2, a3, a4⟩ := four_shows' h.max h.min (cell x2 (8 * (4 * n + 0) + s.val) l) (cell x2 (8 * (4 * n + 1) + s.val) l) (cell x2 (8 * (4 * n + 2) + s.val) l) (cell x2 (8 * (4 * n + 3) + s.val) l)
      exact Shows.insFour h.min h.max _ _ _ _ (IH.lo p h hp) a0 a1 a2 a3 a4

/-- The last eight rows as loaded. -/
theorem ld_last {F : FTy → Type} (arg : Memref sig .tc .vmem S5000x128 .f32) (harg : arg.IsWhole) (x : Vec F S5000x128 .f32) :
    View.readAt (Elt F) arg.view (Rect.unit (s := S5000x128) ![4992, 0] S8x128.size inb_S5000x128_S8x128_4992_0).toLoadRect (harg.unread x) = rows x 4992 := by
  rw [View.readAt_eq_ld, harg.read_unread]
  exact ld_rows x _ _ 4992 rfl rfl

set_option maxHeartbeats 1000000 in
/-- What the first sweep holds when it is over, the last eight rows included. -/
theorem held (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) (s : Fin 8) (l : Fin 128) :
    Held x0 x1 x2 s l 625 (run.sl.r_14 c i arg1 harg1 arg2 harg2 arg3 harg3 arg4 harg4 arg5 harg5 arg6 harg6 arg7 harg7 arg8 harg8 arg9 harg9 x0 x1 x2 (ix2 s l)) (run.sl.r_15 c i arg1 harg1 arg2 harg2 arg3 harg3 arg4 harg4 arg5 harg5 arg6 harg6 arg7 harg7 arg8 harg8 arg9 harg9 x0 x1 x2 (ix2 s l))
      (run.sl.r c i arg1 harg1 arg2 harg2 arg3 harg3 arg4 harg4 arg5 harg5 arg6 harg6 arg7 harg7 arg8 harg8 arg9 harg9 x0 x1 x2 (ix2 s l) + ex (cell x2 (4992 + s.val) l) * cell x2 (4992 + s.val) l)
      (run.sl.r_1 c i arg1 harg1 arg2 harg2 arg3 harg3 arg4 harg4 arg5 harg5 arg6 harg6 arg7 harg7 arg8 harg8 arg9 harg9 x0 x1 x2 (ix2 s l) + ex (cell x2 (4992 + s.val) l) * cell x0 (4992 + s.val) l)
      (run.sl.r_13 c i arg1 harg1 arg2 harg2 arg3 harg3 arg4 harg4 arg5 harg5 arg6 harg6 arg7 harg7 arg8 harg8 arg9 harg9 x0 x1 x2 (ix2 s l))
      (run.sl.r_16 c i arg1 harg1 arg2 harg2 arg3 harg3 arg4 harg4 arg5 harg5 arg6 harg6 arg7 harg7 arg8 harg8 arg9 harg9 x0 x1 x2 (ix2 s l)) (run.sl.r_17 c i arg1 harg1 arg2 harg2 arg3 harg3 arg4 harg4 arg5 harg5 arg6 harg6 arg7 harg7 arg8 harg8 arg9 harg9 x0 x1 x2 (ix2 s l)) (run.sl.r_18 c i arg1 harg1 arg2 harg2 arg3 harg3 arg4 harg4 arg5 harg5 arg6 harg6 arg7 harg7 arg8 harg8 arg9 harg9 x0 x1 x2 (ix2 s l)) (run.sl.r_19 c i arg1 harg1 arg2 harg2 arg3 harg3 arg4 harg4 arg5 harg5 arg6 harg6 arg7 harg7 arg8 harg8 arg9 harg9 x0 x1 x2 (ix2 s l))
      (run.sl.r_20 c i arg1 harg1 arg2 harg2 arg3 harg3 arg4 harg4 arg5 harg5 arg6 harg6 arg7 harg7 arg8 harg8 arg9 harg9 x0 x1 x2 (ix2 s l)) (run.sl.r_21 c i arg1 harg1 arg2 harg2 arg3 harg3 arg4 harg4 arg5 harg5 arg6 harg6 arg7 harg7 arg8 harg8 arg9 harg9 x0 x1 x2 (ix2 s l)) (run.sl.r_22 c i arg1 harg1 arg2 harg2 arg3 harg3 arg4 harg4 arg5 harg5 arg6 harg6 arg7 harg7 arg8 harg8 arg9 harg9 x0 x1 x2 (ix2 s l)) (run.sl.r_23 c i arg1 harg1 arg2 harg2 arg3 harg3 arg4 harg4 arg5 harg5 arg6 harg6 arg7 harg7 arg8 harg8 arg9 harg9 x0 x1 x2 (ix2 s l)) := by
  have ht : Scf.trips k0_t1_loop.lb k0_t1_loop.ub k0_t1_loop.st = 156 := by decide
  have H := sweep1 c i arg1 harg1 arg2 harg2 arg3 harg3 arg4 harg4 arg5 harg5 arg6 harg6 arg7 harg7 arg8 harg8 arg9 harg9 x0 x1 x2 s l 156 le_rfl _ rfl
  have e : 8 * 624 + s.val = 4992 + s.val := rfl
  have c10 : run.sl.r_10 arg3 harg3 x2 = rows x2 4992 := by
    unfold run.sl.r_10 k0_pay316; dsimp only; rw [ld_last, shapeCast_self]
  have hm : ∀ (p : EReal → Prop) [DecidablePred p], many p x2 s l 625 = many p x2 s l 624 + one (p (rows x2 4992 (ix2 s l))) := by
    intro p _; exact Finset.sum_range_succ _ _
  refine ⟨?_, ?_, ?_, ?_, ?_, fun p _ h hp => ?_, fun p _ h hp => ?_⟩
  · unfold run.sl.r_14; rw [ht, ld_last, ld_last, Finset.sum_range_succ, ← H.f]
    simp only [k0_pay321, k0_pay318, k0_pay317, shapeCast_self]
    rw [← add_assoc]; rfl
  · unfold run.sl.r_15; rw [ht, ld_last, Finset.sum_range_succ, ← H.sy]
    simp only [k0_pay322, k0_pay319, k0_pay316, shapeCast_self]
    rfl
  · unfold run.sl.r; rw [ht, Finset.sum_range_succ, ← H.eyy]; rfl
  · unfold run.sl.r_1; rw [ht, Finset.sum_range_succ, ← H.eyu]; rfl
  · unfold run.sl.r_13; rw [ht, ld_last, Finset.sum_range_succ, ← H.su]
    simp only [k0_pay320, k0_pay318, k0_pay317, shapeCast_self]
    rfl
  · have := Shows.ins h.max h.min _ _ (rows x2 4992 (ix2 s l)) (H.hi p h hp)
    rw [hm]
    unfold run.sl.r_16 run.sl.r_17 run.sl.r_18 run.sl.r_19 run.sl.r_2 run.sl.r_3 run.sl.r_4 run.sl.r_5
    rw [ht, c10]
    exact this
  · have := Shows.ins h.min h.max _ _ (rows x2 4992 (ix2 s l)) (H.lo p h hp)
    rw [hm]
    unfold run.sl.r_20 run.sl.r_21 run.sl.r_22 run.sl.r_23 run.sl.r_6 run.sl.r_7 run.sl.r_8 run.sl.r_9
    rw [ht, c10]
    exact this

end Cert.KernelIdeal.Body

end
-- ==== Proof.Fast.lean ====
/- Where no cell's four kept entries fall short: the level found is met by exactly ten of each column. -/
module

public import proofs.«01_k».proof.Proof.Base

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- The number of a column's entries that satisfy `p`. -/
def column (p : EReal → Prop) [DecidablePred p] (x : Vec Ideal S5000x128 .f32) (l : Fin 128) : ℕ :=
  ∑ s : Fin 8, many p x s l 625

/-- The word for one half. -/
theorem word_half : Ideal.ofBits .f32 0x3F000000#32 = ((1 / 2 : ℝ) : EReal) := by
  simp [Ideal.ofBits, Ideal.ieee, -EReal.coe_mul]; norm_num
/-- The word for one. -/
theorem word_one : Ideal.ofBits .f32 0x3F800000#32 = 1 := by
  rw [show (1 : EReal) = ((1 : ℝ) : EReal) by norm_cast]
  simp [Ideal.ofBits, Ideal.ieee, -EReal.coe_mul]; norm_num
/-- The word for ten. -/
theorem word_ten : Ideal.ofBits .f32 0x41200000#32 = ((10 : ℕ) : EReal) := by
  rw [show ((10 : ℕ) : EReal) = ((10 : ℝ) : EReal) by norm_cast]
  simp [Ideal.ofBits, Ideal.ieee, -EReal.coe_mul]; norm_num

/-- A bit as a number. -/
theorem bit_number (P : Prop) [Decidable P] :
    (FloatOps.sitofp (F := Ideal) .f32 (BitVec.setWidth 32 (BitVec.ofBool (decide P))) : EReal) = if P then 1 else 0 := by
  by_cases h : P
  · simp only [h, decide_true, if_true]
    show (((BitVec.setWidth 32 (BitVec.ofBool true)).toInt : ℝ) : EReal) = 1
    have : (BitVec.setWidth 32 (BitVec.ofBool true)).toInt = 1 := by decide
    rw [this]; simp
  · simp only [h, decide_false, if_false]
    show (((BitVec.setWidth 32 (BitVec.ofBool false)).toInt : ℝ) : EReal) = 0
    have : (BitVec.setWidth 32 (BitVec.ofBool false)).toInt = 0 := by decide
    rw [this]; simp

/-- Four kept entries show the whole count if the last is not counted. -/
theorem four_count (p : EReal → Prop) [DecidablePred p] (h0 h1 h2 h3 : EReal) (m : ℕ) (h : Shows p [h0, h1, h2, h3] m) (hl : ¬ p h3) :
    (0 : EReal) + (if p h0 then 1 else 0) + (if p h1 then 1 else 0) + (if p h2 then 1 else 0) + (if p h3 then 1 else 0) = (m : EReal) := by
  obtain ⟨a0, a1, a2, a3, -⟩ := h
  simp only [hl, false_iff, not_lt, if_false] at a3 ⊢
  simp only [a0, a1, a2]
  have : m ≤ 3 := by omega
  interval_cases m <;> norm_num

/-- A flag that is not above one half. -/
theorem flag_low (v : EReal) (h : ¬ Scalar.cmpi .ne (Scalar.extui (Scalar.cmpf (F := Ideal) (φ := .f32) .ogt v (FloatOps.ofBits .f32 1056964608#32))) 0#32 = 1#1) :
    v ≤ ((1 / 2 : ℝ) : EReal) := by
  rw [← word_half]
  by_contra hv
  apply h
  have : Scalar.cmpf (F := Ideal) (φ := .f32) .ogt v (FloatOps.ofBits .f32 1056964608#32) = 1#1 := by
    show BitVec.ofBool (decide (Ideal.ofBits .f32 0x3F000000#32 < v)) = 1#1
    rw [decide_eq_true (not_le.mp hv)]; rfl
  rw [this]; rfl

/-- A choice between one and zero is at most one half only if it is zero. -/
theorem choice_low (P : Prop) [Decidable P] (h : (if P then Ideal.ofBits .f32 0x3F800000#32 else Ideal.ofBits .f32 0x00000000#32) ≤ ((1 / 2 : ℝ) : EReal)) : ¬ P := by
  intro hp
  rw [if_pos hp, word_one] at h
  have : ((1 : ℝ) : EReal) ≤ ((1 / 2 : ℝ) : EReal) := h
  rw [EReal.coe_le_coe_iff] at this
  norm_num at this

set_option maxHeartbeats 1000000 in
/-- The largest side: if its flag is down, ten of every column are at or above the level. -/
theorem fast_hi (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) (h : run.sl.v329 c i arg1 harg1 arg2 harg2 arg3 harg3 arg4 harg4 arg5 harg5 arg6 harg6 arg7 harg7 arg8 harg8 arg9 harg9 x0 x1 x2 ≤ ((1 / 2 : ℝ) : EReal)) (l : Fin 128) :
    column (fun a => run.sl.v306 c i arg1 harg1 arg2 harg2 arg3 harg3 arg4 harg4 arg5 harg5 arg6 harg6 arg7 harg7 arg8 harg8 arg9 harg9 x0 x1 x2 (ix2 0 l) ≤ a) x2 l = 10 := by
  have hmax : max (run.sl.v319 c i arg1 harg1 arg2 harg2 arg3 harg3 arg4 harg4 arg5 harg5 arg6 harg6 arg7 harg7 arg8 harg8 arg9 harg9 x0 x1 x2) (run.sl.v328 c i arg1 harg1 arg2 harg2 arg3 harg3 arg4 harg4 arg5 harg5 arg6 harg6 arg7 harg7 arg8 harg8 arg9 harg9 x0 x1 x2) ≤ ((1 / 2 : ℝ) : EReal) := h
  obtain ⟨h1, h2⟩ := max_le_iff.mp hmax
  have h1' := fun s => (maxAll_le (run.sl.v315 c i arg1 harg1 arg2 harg2 arg3 harg3 arg4 harg4 arg5 harg5 arg6 harg6 arg7 harg7 arg8 harg8 arg9 harg9 x0 x1 x2) _ _ _ _ _ _ _).mp h1 (ix2 s l)
  have h2' := (maxAll_le (run.sl.v324 c i arg1 harg1 arg2 harg2 arg3 harg3 arg4 harg4 arg5 harg5 arg6 harg6 arg7 harg7 arg8 harg8 arg9 harg9 x0 x1 x2) _ _ _ _ _ _ _).mp h2 (ix2 0 l)
  have eT : run.sl.v306 c i arg1 harg1 arg2 harg2 arg3 harg3 arg4 harg4 arg5 harg5 arg6 harg6 arg7 harg7 arg8 harg8 arg9 harg9 x0 x1 x2 = run.sl.v280 c i arg1 harg1 arg2 harg2 arg3 harg3 arg4 harg4 arg5 harg5 arg6 harg6 arg7 harg7 arg8 harg8 arg9 harg9 x0 x1 x2 := shapeCast_self ..
  rw [eT]
  generalize hT : run.sl.v280 c i arg1 harg1 arg2 harg2 arg3 harg3 arg4 harg4 arg5 harg5 arg6 harg6 arg7 harg7 arg8 harg8 arg9 harg9 x0 x1 x2 (ix2 0 l) = T
  have eS : ∀ s, run.sl.v282 c i arg1 harg1 arg2 harg2 arg3 harg3 arg4 harg4 arg5 harg5 arg6 harg6 arg7 harg7 arg8 harg8 arg9 harg9 x0 x1 x2 (ix2 s l) = T := fun s => (spread_apply (run.sl.v280 c i arg1 harg1 arg2 harg2 arg3 harg3 arg4 harg4 arg5 harg5 arg6 harg6 arg7 harg7 arg8 harg8 arg9 harg9 x0 x1 x2) s l).trans hT
  have k1 : ∀ s, ¬ T ≤ run.sl.r_19 c i arg1 harg1 arg2 harg2 arg3 harg3 arg4 harg4 arg5 harg5 arg6 harg6 arg7 harg7 arg8 harg8 arg9 harg9 x0 x1 x2 (ix2 s l) := by
    intro s
    have := h1' s
    apply choice_low
    rw [← eS s]
    refine le_of_eq_of_le (select_ofBool _ _ _).symm this
  have k2 : run.sl.v303 c i arg1 harg1 arg2 harg2 arg3 harg3 arg4 harg4 arg5 harg5 arg6 harg6 arg7 harg7 arg8 harg8 arg9 harg9 x0 x1 x2 (ix2 0 l) = ((10 : ℕ) : EReal) := by
    have := choice_low (run.sl.v303 c i arg1 harg1 arg2 harg2 arg3 harg3 arg4 harg4 arg5 harg5 arg6 harg6 arg7 harg7 arg8 harg8 arg9 harg9 x0 x1 x2 (ix2 0 l) ≠ Ideal.ofBits .f32 0x41200000#32) (le_of_eq_of_le (select_ofBool _ _ _).symm h2')
    rw [not_not] at this
    rw [this, word_ten]
  have k3 : run.sl.v303 c i arg1 harg1 arg2 harg2 arg3 harg3 arg4 harg4 arg5 harg5 arg6 harg6 arg7 harg7 arg8 harg8 arg9 harg9 x0 x1 x2 (ix2 0 l) = ∑ s : Fin 8, run.sl.v301 c i arg1 harg1 arg2 harg2 arg3 harg3 arg4 harg4 arg5 harg5 arg6 harg6 arg7 harg7 arg8 harg8 arg9 harg9 x0 x1 x2 (ix2 s l) := sumDown _ _ _ _ l
  have up : Up fun a => T ≤ a := fun a b hab ha => le_trans ha hab
  have k4 : ∀ s, run.sl.v301 c i arg1 harg1 arg2 harg2 arg3 harg3 arg4 harg4 arg5 harg5 arg6 harg6 arg7 harg7 arg8 harg8 arg9 harg9 x0 x1 x2 (ix2 s l) = ((many (fun a => T ≤ a) x2 s l 625 : ℕ) : EReal) := by
    intro s
    have hb : ¬ T ≤ ⊥ := fun hb => k1 s (le_trans hb bot_le)
    rw [← four_count _ _ _ _ _ _ ((held c i arg1 harg1 arg2 harg2 arg3 harg3 arg4 harg4 arg5 harg5 arg6 harg6 arg7 harg7 arg8 harg8 arg9 harg9 x0 x1 x2 s l).hi _ up hb) (k1 s)]
    rw [← bit_number, ← bit_number, ← bit_number, ← bit_number, ← eS s, ← Ideal.ofBits_zero_f32]
    rfl
  rw [k3] at k2
  simp only [k4] at k2
  unfold column
  exact_mod_cast k2

set_option maxHeartbeats 1000000 in
/-- The smallest side: if its flag is down, ten of every column are at or below the level. -/
theorem fast_lo (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32)
    (h : k0_pay374 (run.sl.v546 c i arg1 harg1 arg2 harg2 arg3 harg3 arg4 harg4 arg5 harg5 arg6 harg6 arg7 harg7 arg8 harg8 arg9 harg9 x0 x1 x2) (run.sl.v562 c i arg1 harg1 arg2 harg2 arg3 harg3 arg4 harg4 arg5 harg5 arg6 harg6 arg7 harg7 arg8 harg8 arg9 harg9 x0 x1 x2) run.sl.cst_85 ≤ ((1 / 2 : ℝ) : EReal)) (l : Fin 128) :
    column (fun a => a ≤ run.sl.v549 c i arg1 harg1 arg2 harg2 arg3 harg3 arg4 harg4 arg5 harg5 arg6 harg6 arg7 harg7 arg8 harg8 arg9 harg9 x0 x1 x2 (ix2 0 l)) x2 l = 10 := by
  obtain ⟨h1, h2⟩ := max_le_iff.mp (show max (run.sl.v562 c i arg1 harg1 arg2 harg2 arg3 harg3 arg4 harg4 arg5 harg5 arg6 harg6 arg7 harg7 arg8 harg8 arg9 harg9 x0 x1 x2) _ ≤ _ from h)
  have h1' := fun s => (maxAll_le (run.sl.v558 c i arg1 harg1 arg2 harg2 arg3 harg3 arg4 harg4 arg5 harg5 arg6 harg6 arg7 harg7 arg8 harg8 arg9 harg9 x0 x1 x2) _ _ _ _ _ _ _).mp h1 (ix2 s l)
  have h2' := (maxAll_le _ _ _ _ _ _ _ _).mp h2 (ix2 0 l)
  have eT : run.sl.v549 c i arg1 harg1 arg2 harg2 arg3 harg3 arg4 harg4 arg5 harg5 arg6 harg6 arg7 harg7 arg8 harg8 arg9 harg9 x0 x1 x2 = run.sl.v523 c i arg1 harg1 arg2 harg2 arg3 harg3 arg4 harg4 arg5 harg5 arg6 harg6 arg7 harg7 arg8 harg8 arg9 harg9 x0 x1 x2 := shapeCast_self ..
  rw [eT]
  generalize hT : run.sl.v523 c i arg1 harg1 arg2 harg2 arg3 harg3 arg4 harg4 arg5 harg5 arg6 harg6 arg7 harg7 arg8 harg8 arg9 harg9 x0 x1 x2 (ix2 0 l) = T
  have eS : ∀ s, run.sl.v525 c i arg1 harg1 arg2 harg2 arg3 harg3 arg4 harg4 arg5 harg5 arg6 harg6 arg7 harg7 arg8 harg8 arg9 harg9 x0 x1 x2 (ix2 s l) = T := fun s => (spread_apply (run.sl.v523 c i arg1 harg1 arg2 harg2 arg3 harg3 arg4 harg4 arg5 harg5 arg6 harg6 arg7 harg7 arg8 harg8 arg9 harg9 x0 x1 x2) s l).trans hT
  have k1 : ∀ s, ¬ run.sl.r_23 c i arg1 harg1 arg2 harg2 arg3 harg3 arg4 harg4 arg5 harg5 arg6 harg6 arg7 harg7 arg8 harg8 arg9 harg9 x0 x1 x2 (ix2 s l) ≤ T := by
    intro s
    have := h1' s
    apply choice_low
    rw [← eS s]
    refine le_of_eq_of_le (select_ofBool _ _ _).symm this
  have k2 : run.sl.v546 c i arg1 harg1 arg2 harg2 arg3 harg3 arg4 harg4 arg5 harg5 arg6 harg6 arg7 harg7 arg8 harg8 arg9 harg9 x0 x1 x2 (ix2 0 l) = ((10 : ℕ) : EReal) := by
    have := choice_low (run.sl.v546 c i arg1 harg1 arg2 harg2 arg3 harg3 arg4 harg4 arg5 harg5 arg6 harg6 arg7 harg7 arg8 harg8 arg9 harg9 x0 x1 x2 (ix2 0 l) ≠ Ideal.ofBits .f32 0x41200000#32) (le_of_eq_of_le (select_ofBool _ _ _).symm h2')
    rw [not_not] at this
    rw [this, word_ten]
  have k3 : run.sl.v546 c i arg1 harg1 arg2 harg2 arg3 harg3 arg4 harg4 arg5 harg5 arg6 harg6 arg7 harg7 arg8 harg8 arg9 harg9 x0 x1 x2 (ix2 0 l) = ∑ s : Fin 8, run.sl.v544 c i arg1 harg1 arg2 harg2 arg3 harg3 arg4 harg4 arg5 harg5 arg6 harg6 arg7 harg7 arg8 harg8 arg9 harg9 x0 x1 x2 (ix2 s l) := sumDown _ _ _ _ l
  have down : Down fun a => a ≤ T := fun a b hab ha => le_trans hab ha
  have k4 : ∀ s, run.sl.v544 c i arg1 harg1 arg2 harg2 arg3 harg3 arg4 harg4 arg5 harg5 arg6 harg6 arg7 harg7 arg8 harg8 arg9 harg9 x0 x1 x2 (ix2 s l) = ((many (fun a => a ≤ T) x2 s l 625 : ℕ) : EReal) := by
    intro s
    have hb : ¬ ⊤ ≤ T := fun hb => k1 s (le_trans le_top hb)
    rw [← four_count _ _ _ _ _ _ ((held c i arg1 harg1 arg2 harg2 arg3 harg3 arg4 harg4 arg5 harg5 arg6 harg6 arg7 harg7 arg8 harg8 arg9 harg9 x0 x1 x2 s l).lo _ down hb) (k1 s)]
    rw [← bit_number, ← bit_number, ← bit_number, ← bit_number, ← eS s, ← Ideal.ofBits_zero_f32]
    rfl
  rw [k3] at k2
  simp only [k4] at k2
  unfold column
  exact_mod_cast k2

end Cert.KernelIdeal.Body

end
-- ==== Proof.Rank.lean ====
/- Finding the tenth largest of a family by going down its distinct values and counting. -/
module

public import proofs.«01_k».proof.Proof.Order

@[expose] public section

namespace Cert.Order

open Classical

variable {ι α : Type} [Fintype ι] [LinearOrder α] (A : ι → α)

/-- How many of the family satisfy `P`. -/
noncomputable def cnt (P : α → Prop) : ℕ := (Finset.univ.filter fun j => P (A j)).card

/-- One step down: the next value is the largest below the last, its copies are counted, and it is taken
    as the level if the count reaches ten with it. -/
structure Step (φ : α → EReal) (M : α) (C : ℕ) (t : EReal) (M' : α) (C' : ℕ) (t' : EReal) : Prop where
  sup : ∀ c, M' ≤ c ↔ ∀ j, A j < M → A j ≤ c
  count : C' = C + cnt A (· = M')
  level : t' = t + if C < 10 ∧ 10 ≤ C' then φ M' else 0

/-- Before the count reaches ten it is that of the entries from the last value on, and the level is not
    yet set; after, the level is a value with ten entries from it on and fewer than ten beyond it. -/
def Going (φ : α → EReal) (i : ℕ) (M : α) (C : ℕ) (t : EReal) : Prop :=
  (C = cnt A (M ≤ ·) ∧ C < 10 ∧ t = 0 ∧ i ≤ C)
  ∨ (10 ≤ C ∧ ∃ T, (∃ j, A j = T) ∧ t = φ T ∧ 10 ≤ cnt A (T ≤ ·) ∧ cnt A (T < ·) < 10)

variable {A}

/-- A step keeps the account of how far the steps have come. -/
theorem Step.going {φ : α → EReal} {i : ℕ} {M M' : α} {C C' : ℕ} {t t' : EReal} (hι : 10 ≤ Fintype.card ι)
    (h : Step A φ M C t M' C' t') (g : Going A φ i M C t) : Going A φ (i + 1) M' C' t' := by
  rcases g with ⟨hC, hlt, ht, hi⟩ | ⟨hC, T, hT⟩
  · have hex : ∃ j, A j < M := by
      by_contra hno
      push Not at hno
      have : cnt A (M ≤ ·) = Fintype.card ι := by
        unfold cnt; rw [← Finset.card_univ]; congr 1; ext k; simp [hno k]
      omega
    obtain ⟨j, hj, hmax⟩ := Finset.exists_max_image (Finset.univ.filter fun j => A j < M) A (by
      obtain ⟨j, hj⟩ := hex; exact ⟨j, by simpa using hj⟩)
    have hj' : A j < M := by simpa using hj
    have hM : M' = A j := le_antisymm ((h.sup _).mpr fun k hk => hmax k (by simpa using hk)) ((h.sup M').mp le_rfl j hj')
    have hlt' : M' < M := hM ▸ hj'
    have hbelow : ∀ k, A k < M → A k ≤ M' := (h.sup M').mp le_rfl
    have e1 : cnt A (M' ≤ ·) = cnt A (M ≤ ·) + cnt A (· = M') := by
      unfold cnt
      rw [← Finset.card_union_of_disjoint]
      · congr 1; ext k
        simp only [Finset.mem_filter, Finset.mem_univ, true_and, Finset.mem_union]
        constructor
        · intro hk
          rcases lt_or_ge (A k) M with hk' | hk'
          · exact Or.inr (le_antisymm (hbelow k hk') hk)
          · exact Or.inl hk'
        · rintro (hk | hk)
          · exact hlt'.le.trans hk
          · exact hk.ge
      · refine Finset.disjoint_left.mpr fun k h1 h2 => ?_
        simp only [Finset.mem_filter, Finset.mem_univ, true_and] at h1 h2
        rw [h2] at h1
        exact absurd hlt' (not_lt.mpr h1)
    have e2 : cnt A (M' < ·) = cnt A (M ≤ ·) := by
      unfold cnt; congr 1; ext k
      simp only [Finset.mem_filter, Finset.mem_univ, true_and]
      exact ⟨fun hk => le_of_not_gt fun hk' => absurd (hbelow k hk') (not_le.mpr hk), fun hk => lt_of_lt_of_le hlt' hk⟩
    have e3 : 1 ≤ cnt A (· = M') := Finset.card_pos.mpr ⟨j, by simp [hM]⟩
    have e4 := h.count
    rcases lt_or_ge C' 10 with hc | hc
    · refine Or.inl ⟨by omega, hc, ?_, by omega⟩
      rw [h.level, ht, if_neg (by omega), add_zero]
    · refine Or.inr ⟨hc, M', ⟨j, hM.symm⟩, ?_, by omega, by omega⟩
      rw [h.level, ht, if_pos ⟨hlt, hc⟩, zero_add]
  · refine Or.inr ⟨by have := h.count; omega, T, hT.1, ?_, hT.2.2⟩
    rw [h.level, if_neg (by omega), add_zero, hT.2.1]

/-- Before the first step. -/
theorem going_start (φ : α → EReal) (M : α) (hM : ∀ j, A j < M) : Going A φ 0 M 0 0 := by
  refine Or.inl ⟨?_, by norm_num, rfl, le_rfl⟩
  unfold cnt
  rw [← Finset.card_empty (α := ι)]; congr 1; ext k; simp [hM k]

/-- After ten steps the level is set. -/
theorem Going.done {φ : α → EReal} {M : α} {C : ℕ} {t : EReal} (g : Going A φ 10 M C t) :
    ∃ T, (∃ j, A j = T) ∧ t = φ T ∧ 10 ≤ cnt A (T ≤ ·) ∧ cnt A (T < ·) < 10 := by
  rcases g with ⟨_, h1, _, h2⟩ | ⟨_, h⟩
  · omega
  · exact h

/-- A list that shows how many of a stream satisfy `p` has that many satisfying it, up to its length. -/
theorem Shows.total {β : Type} {p : β → Prop} [DecidablePred p] : ∀ (as : List β) (n : ℕ), Shows p as n → (as.map fun a => one (p a)).sum = min n as.length
  | [], n, _ => by simp
  | a :: as, n, ⟨h1, h2⟩ => by
    have := Shows.total as (n - 1) h2
    simp only [List.map_cons, List.sum_cons, List.length_cons, this]
    unfold one
    split
    · have := h1.mp ‹_›; omega
    · have : ¬ 0 < n := fun h => ‹¬ p a› (h1.mpr h)
      omega

end Cert.Order
-- ==== Proof.Loop6.lean ====
/- The sweep that adds up the two sides' chosen entries: one trip, then all of them. -/
module

public import proofs.«01_k».proof.Proof.Cells

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators

/-- A trip's row offset. -/
theorem off8 (k : ℕ) (hk : k < 625) : BitVec.toNat (Scalar.indexCast (Scalar.muli (Scf.iv (0#32 : BitVec 32) 1#32 k) 8#32)) = 8 * k := by
  unfold Scalar.indexCast Scalar.muli Scf.iv
  show (BitVec.toNat ((0#32 + BitVec.ofNat 32 k * 1#32) * 8#32)) = _
  rw [BitVec.toNat_mul, BitVec.toNat_add, BitVec.toNat_mul, BitVec.toNat_ofNat, BitVec.toNat_ofNat, BitVec.toNat_ofNat, BitVec.toNat_ofNat]
  omega

section
variable {F : FTy → Type} [FloatOps F] [Named F]

set_option maxHeartbeats 2000000 in
/-- One trip of the sweep. -/
theorem trip6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 : FVec F S8x128 .f32) (v329 : F .f32) (v546 : FVec F S1x128 .f32) (v562 cst_145 : F .f32)
    (v605 v606 : Vec F S1x128 .f32) (x0 x1 x2 : Vec F S5000x128 .f32) (k : Fin k0_t6_loop.trips) (acc : FVec F S8x128 .f32 × FVec F S8x128 .f32) :
    tripR_k0_t6 Variants.none c none i arg1 harg1 arg2 harg2 arg3 harg3 arg4 harg4 arg5 harg5 arg6 harg6 arg7 harg7 arg8 harg8 arg9 harg9 v0 v1 v2 v329 v546 v562 cst_145 v605 v606 (harg1.unread x0) (harg2.unread x1) (harg3.unread x2) k acc
      = (k0_pay390 v605 acc.1 (rows x2 (8 * k.val)) (rows x0 (8 * k.val)), k0_pay391 v606 acc.2 (rows x2 (8 * k.val)) (rows x1 (8 * k.val))) := by
  unfold tripR_k0_t6 trip_k0_t6
  dsimp only
  sl_unfold_words
  have hk : k.val < 625 := Nat.lt_of_lt_of_le k.isLt k0_t6_abs.2.1
  simp only [View.readAt_eq_ld, harg1.read_unread, harg2.read_unread, harg3.read_unread]
  have e : ∀ (x : Vec F S5000x128 .f32) (inb), View.ld (Val := Elt F) (e' := .f32) x (Rect.unit (s := S5000x128)
      ![BitVec.toNat (Scalar.indexCast (Scalar.muli (Scf.iv 0#32 1#32 k.val) 8#32)), 0] S8x128.size inb) = rows x (8 * k.val) :=
    fun x inb => ld_rows x _ inb _ (off8 k.val hk) rfl
  exact congrArg₂ Prod.mk (congrArg₂ (k0_pay390 v605 acc.1) (e x2 _) (e x0 _)) (congrArg₂ (k0_pay391 v606 acc.2) (e x2 _) (e x1 _))
end

/-- A row spread over eight rows. -/
theorem spread_apply' (v : Vec Ideal S1x128 .f32) (h : S1x128.Broadcasts S8x128) (s : Fin 8) (l : Fin 128) :
    broadcastTo S8x128 v h (ix2 s l) = v (ix2 0 l) := spread_apply v s l

/-- One addition of the entries at or above a row's level. -/
theorem pay390_apply (t : Vec Ideal S1x128 .f32) (a : FVec Ideal S8x128 .f32) (y u : Vec Ideal S8x128 .f32) (s : Fin 8) (l : Fin 128) :
    k0_pay390 t a y u (ix2 s l) = a (ix2 s l) + if t (ix2 0 l) ≤ y (ix2 s l) then u (ix2 s l) else 0 := by
  unfold k0_pay390 k0_pay389
  dsimp only
  rw [addf_apply, shapeCast_self, shapeCast_self]
  show a (ix2 s l) + Scalar.select (BitVec.ofBool (decide (broadcastTo S8x128 t _ (ix2 s l) ≤ y (ix2 s l)))) (u (ix2 s l)) (Ideal.ofBits .f32 0x00000000#32) = _
  rw [select_ofBool, spread_apply, Ideal.ofBits_zero_f32]

/-- One addition of the entries at or below a row's level. -/
theorem pay391_apply (t : Vec Ideal S1x128 .f32) (a : FVec Ideal S8x128 .f32) (y u : Vec Ideal S8x128 .f32) (s : Fin 8) (l : Fin 128) :
    k0_pay391 t a y u (ix2 s l) = a (ix2 s l) + if y (ix2 s l) ≤ t (ix2 0 l) then u (ix2 s l) else 0 := by
  unfold k0_pay391 k0_pay389
  dsimp only
  rw [addf_apply, shapeCast_self, shapeCast_self]
  show a (ix2 s l) + Scalar.select (BitVec.ofBool (decide (y (ix2 s l) ≤ broadcastTo S8x128 t _ (ix2 s l)))) (u (ix2 s l)) (Ideal.ofBits .f32 0x00000000#32) = _
  rw [select_ofBool, spread_apply, Ideal.ofBits_zero_f32]

/-- The sweep's sums entry by entry. -/
theorem sweep6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 : FVec Ideal S8x128 .f32) (v329 : Ideal .f32) (v546 : FVec Ideal S1x128 .f32) (v562 cst_145 : Ideal .f32)
    (v605 v606 : Vec Ideal S1x128 .f32) (x0 x1 x2 : Vec Ideal S5000x128 .f32) (s : Fin 8) (l : Fin 128) (n : ℕ) (hn : n ≤ 625) :
    (st_k0_t6 Variants.none c none i arg1 harg1 arg2 harg2 arg3 harg3 arg4 harg4 arg5 harg5 arg6 harg6 arg7 harg7 arg8 harg8 arg9 harg9 v0 v1 v2 v329 v546 v562 cst_145 v605 v606 (harg1.unread x0) (harg2.unread x1) (harg3.unread x2)
        (k0_pay308, k0_pay308) n).1 (ix2 s l)
      = ∑ k ∈ Finset.range n, (if v605 (ix2 0 l) ≤ cell x2 (8 * k + s.val) l then cell x0 (8 * k + s.val) l else 0)
    ∧ (st_k0_t6 Variants.none c none i arg1 harg1 arg2 harg2 arg3 harg3 arg4 harg4 arg5 harg5 arg6 harg6 arg7 harg7 arg8 harg8 arg9 harg9 v0 v1 v2 v329 v546 v562 cst_145 v605 v606 (harg1.unread x0) (harg2.unread x1) (harg3.unread x2)
        (k0_pay308, k0_pay308) n).2 (ix2 s l)
      = ∑ k ∈ Finset.range n, (if cell x2 (8 * k + s.val) l ≤ v606 (ix2 0 l) then cell x1 (8 * k + s.val) l else (0 : EReal)) := by
  induction n with
  | zero =>
    rw [st_k0_t6_zero, Finset.range_zero, Finset.sum_empty, Finset.sum_empty]
    exact ⟨Ideal.ofBits_zero_f32, Ideal.ofBits_zero_f32⟩
  | succ n ih =>
    have hlt : n < k0_t6_loop.trips := lt_of_lt_of_eq (by omega : n < 625) (by decide)
    rw [st_k0_t6_succ (k := ⟨n, hlt⟩), trip6, Finset.sum_range_succ, Finset.sum_range_succ]
    obtain ⟨h1, h2⟩ := ih (by omega)
    refine ⟨(pay390_apply ..).trans ?_, (pay391_apply ..).trans ?_⟩
    · rw [h1]; rfl
    · rw [h2]; rfl

end Cert.KernelIdeal.Body

end
-- ==== Proof.Deep.lean ====
/- The long way to a level: the ten largest of each cell's stream, then ten steps down the distinct values. -/
module

public import proofs.«01_k».proof.Proof.Fast
public import proofs.«01_k».proof.Proof.Rank
public import proofs.«01_k».proof.Proof.Loop6

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- The load of a trip reads its eight rows. -/
theorem ld8 {F : FTy → Type} (x : Vec F S5000x128 .f32) (k : ℕ) (hk : k < 625) (inb) : View.ld (Val := Elt F) (e' := .f32) x (Rect.unit (s := S5000x128)
      ![BitVec.toNat (Scalar.indexCast (Scalar.muli (Scf.iv (0#32 : BitVec 32) 1#32 k) 8#32)), 0] ![8, 128] inb) = rows x (8 * k) :=
  ld_rows x _ inb _ (off8 k hk) rfl

/-- The ten blocks of a carried tuple. -/
def blocks {T : Type} (S : T × T × T × T × T × T × T × T × T × T) : Fin 10 → T :=
  ![S.1, S.2.1, S.2.2.1, S.2.2.2.1, S.2.2.2.2.1, S.2.2.2.2.2.1, S.2.2.2.2.2.2.1, S.2.2.2.2.2.2.2.1, S.2.2.2.2.2.2.2.2.1, S.2.2.2.2.2.2.2.2.2]

/-- Ten blocks at a cell, in order. -/
def at10 (S : Fin 10 → FVec Ideal S8x128 .f32) (s : Fin 8) (l : Fin 128) : List EReal :=
  [S 0 (ix2 s l), S 1 (ix2 s l), S 2 (ix2 s l), S 3 (ix2 s l), S 4 (ix2 s l), S 5 (ix2 s l), S 6 (ix2 s l), S 7 (ix2 s l), S 8 (ix2 s l), S 9 (ix2 s l)]

set_option maxHeartbeats 2000000 in
/-- One trip of the sweep for the ten largest. -/
theorem trip2 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v1 : FVec Ideal S8x128 .f32) (x2 : Vec Ideal S5000x128 .f32) (k : Fin k0_t2_loop.trips) (acc) (s : Fin 8) (l : Fin 128) :
    at10 (blocks (tripR_k0_t2 Variants.none c none i arg1 harg1 arg2 harg2 arg3 harg3 arg4 harg4 arg5 harg5 arg6 harg6 arg7 harg7 arg8 harg8 arg9 harg9 v1 (harg3.unread x2) k acc)) s l = ins max min (at10 (blocks acc) s l) (cell x2 (8 * k.val + s.val) l) := by
  unfold tripR_k0_t2 trip_k0_t2
  dsimp only
  sl_unfold_words
  have hk : k.val < 625 := Nat.lt_of_lt_of_le k.isLt k0_t2_abs.2.1
  simp only [View.readAt_eq_ld, harg3.read_unread]
  erw [ld8 x2 k.val hk]
  simp only [k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay66, shapeCast_self]
  rfl

set_option maxHeartbeats 2000000 in
/-- One trip of the sweep for the ten smallest. -/
theorem trip4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v1 : FVec Ideal S8x128 .f32) (x2 : Vec Ideal S5000x128 .f32) (k : Fin k0_t4_loop.trips) (acc) (s : Fin 8) (l : Fin 128) :
    at10 (blocks (tripR_k0_t4 Variants.none c none i arg1 harg1 arg2 harg2 arg3 harg3 arg4 harg4 arg5 harg5 arg6 harg6 arg7 harg7 arg8 harg8 arg9 harg9 v1 (harg3.unread x2) k acc)) s l = ins min max (at10 (blocks acc) s l) (cell x2 (8 * k.val + s.val) l) := by
  unfold tripR_k0_t4 trip_k0_t4
  dsimp only
  sl_unfold_words
  have hk : k.val < 625 := Nat.lt_of_lt_of_le k.isLt k0_t4_abs.2.1
  simp only [View.readAt_eq_ld, harg3.read_unread]
  erw [ld8 x2 k.val hk]
  simp only [k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay187, shapeCast_self]
  rfl

/-- What the ten largest show. -/
theorem sweep2 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (s : Fin 8) (l : Fin 128) (p : EReal → Prop) [DecidablePred p] (h : Up p) (hp : ¬ p ⊥) (n : ℕ) (hn : n ≤ 625) :
    Shows p (at10 (blocks (st_k0_t2 Variants.none c none i arg1 harg1 arg2 harg2 arg3 harg3 arg4 harg4 arg5 harg5 arg6 harg6 arg7 harg7 arg8 harg8 arg9 harg9 k0_pay309 (harg3.unread x2)
      (k0_pay309, k0_pay309, k0_pay309, k0_pay309, k0_pay309, k0_pay309, k0_pay309, k0_pay309, k0_pay309, k0_pay309) n)) s l) (many p x2 s l n) := by
  induction n with
  | zero =>
    rw [st_k0_t2_zero]
    have z1 : (k0_pay309 : FVec Ideal S8x128 .f32) (ix2 s l) = ⊥ := word_bot
    simp [at10, blocks, Shows, many, hp, z1]
  | succ n ih =>
    have hlt : n < k0_t2_loop.trips := lt_of_lt_of_eq (by omega : n < 625) (by decide)
    rw [st_k0_t2_succ (k := ⟨n, hlt⟩), trip2]
    have := Shows.ins h.max h.min _ _ (cell x2 (8 * n + s.val) l) (ih (by omega))
    rwa [show many p x2 s l n + one (p (cell x2 (8 * n + s.val) l)) = many p x2 s l (n + 1) from (Finset.sum_range_succ _ _).symm] at this

/-- What the ten smallest show. -/
theorem sweep4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (s : Fin 8) (l : Fin 128) (p : EReal → Prop) [DecidablePred p] (h : Down p) (hp : ¬ p ⊤) (n : ℕ) (hn : n ≤ 625) :
    Shows p (at10 (blocks (st_k0_t4 Variants.none c none i arg1 harg1 arg2 harg2 arg3 harg3 arg4 harg4 arg5 harg5 arg6 harg6 arg7 harg7 arg8 harg8 arg9 harg9 k0_pay310 (harg3.unread x2)
      (k0_pay310, k0_pay310, k0_pay310, k0_pay310, k0_pay310, k0_pay310, k0_pay310, k0_pay310, k0_pay310, k0_pay310) n)) s l) (many p x2 s l n) := by
  induction n with
  | zero =>
    rw [st_k0_t4_zero]
    have z1 : (k0_pay310 : FVec Ideal S8x128 .f32) (ix2 s l) = ⊤ := word_top
    simp [at10, blocks, Shows, many, hp, z1]
  | succ n ih =>
    have hlt : n < k0_t4_loop.trips := lt_of_lt_of_eq (by omega : n < 625) (by decide)
    rw [st_k0_t4_succ (k := ⟨n, hlt⟩), trip4]
    have := Shows.ins h.min h.max _ _ (cell x2 (8 * n + s.val) l) (ih (by omega))
    rwa [show many p x2 s l n + one (p (cell x2 (8 * n + s.val) l)) = many p x2 s l (n + 1) from (Finset.sum_range_succ _ _).symm] at this

/-- The row of one number. -/
def row (w : BitVec 32) : FVec Ideal S1x128 .f32 := broadcast S1x128 (FloatOps.ofBits .f32 w)

/-- Down the columns, the largest of ten blocks. -/
def topV (A : Fin 10 → FVec Ideal S8x128 .f32) : FVec Ideal S1x128 .f32 :=
  shapeCast S1x128 (multiReduction .maximumf [0] S128 (maximumf (maximumf (maximumf (maximumf (maximumf (maximumf (maximumf (maximumf (maximumf (A 0) (A 1)) (A 2)) (A 3)) (A 4)) (A 5)) (A 6)) (A 7)) (A 8)) (A 9))
    0xFF800000#32 reduces_S8x128_S128 (.inl rfl) rfl) shapeCasts_S128_S1x128

/-- Down the columns, the smallest of ten blocks. -/
def botV (A : Fin 10 → FVec Ideal S8x128 .f32) : FVec Ideal S1x128 .f32 :=
  shapeCast S1x128 (multiReduction .minimumf [0] S128 (minimumf (minimumf (minimumf (minimumf (minimumf (minimumf (minimumf (minimumf (minimumf (A 0) (A 1)) (A 2)) (A 3)) (A 4)) (A 5)) (A 6)) (A 7)) (A 8)) (A 9))
    0x7F800000#32 reduces_S8x128_S128 (.inl rfl) rfl) shapeCasts_S128_S1x128

/-- Only the entries below a row of values. -/
def belowV (m : FVec Ideal S1x128 .f32) (A : Fin 10 → FVec Ideal S8x128 .f32) : Fin 10 → FVec Ideal S8x128 .f32 := fun j =>
  select (cmpf .olt (A j) (broadcastTo S8x128 m broadcasts_S1x128_S8x128)) (A j) (broadcast S8x128 (FloatOps.ofBits .f32 0xFF800000#32))

/-- Only the entries above a row of values. -/
def aboveV (m : FVec Ideal S1x128 .f32) (A : Fin 10 → FVec Ideal S8x128 .f32) : Fin 10 → FVec Ideal S8x128 .f32 := fun j =>
  select (cmpf .ogt (A j) (broadcastTo S8x128 m broadcasts_S1x128_S8x128)) (A j) (broadcast S8x128 (FloatOps.ofBits .f32 0x7F800000#32))

/-- One where a block meets a row of values. -/
def meetV (m : FVec Ideal S1x128 .f32) (a : FVec Ideal S8x128 .f32) : FVec Ideal S8x128 .f32 :=
  sitofp .f32 (extui 32 (cmpf .oeq a (broadcastTo S8x128 m broadcasts_S1x128_S8x128)) (by norm_num))

/-- How often ten blocks meet a row of values, down the columns. -/
def countV (m : FVec Ideal S1x128 .f32) (A : Fin 10 → FVec Ideal S8x128 .f32) : FVec Ideal S1x128 .f32 :=
  shapeCast S1x128 (multiReduction .add [0] S128 (addf (addf (addf (addf (addf (addf (addf (addf (addf (addf (broadcast S8x128 (FloatOps.ofBits .f32 0x00000000#32))
    (meetV m (A 0))) (meetV m (A 1))) (meetV m (A 2))) (meetV m (A 3))) (meetV m (A 4))) (meetV m (A 5))) (meetV m (A 6))) (meetV m (A 7))) (meetV m (A 8))) (meetV m (A 9)))
    0x00000000#32 reduces_S8x128_S128 (.inl rfl) rfl) shapeCasts_S128_S1x128

/-- The count and the level after a value `m`. -/
structure LevelV (A : Fin 10 → FVec Ideal S8x128 .f32) (cum t m cum' t' : FVec Ideal S1x128 .f32) : Prop where
  count : cum' = addf cum (countV m A)
  level : t' = addf t (select (andi (cmpf .olt cum (row 0x41200000#32)) (cmpf .oge cum' (row 0x41200000#32))) m (row 0x00000000#32))

/-- The entries of ten blocks in column `l`. -/
def fam (A : Fin 10 → FVec Ideal S8x128 .f32) (l : Fin 128) : Fin 8 × Fin 10 → EReal := fun e => A e.2 (ix2 e.1 l)

/-- A number is at least the largest entry of a column of ten slabs just when it is at least every entry. -/
theorem topV_le (A : Fin 10 → FVec Ideal S8x128 .f32) (l : Fin 128) (c : EReal) : topV A (ix2 0 l) ≤ c ↔ ∀ e, fam A l e ≤ c := by
  have e : topV A (ix2 0 l) = _ := maxDown _ _ _ _ l
  rw [e, Finset.sup_le_iff, Prod.forall]
  refine forall_congr' fun s => ?_
  simp only [Finset.mem_univ, forall_const, fam]
  refine Iff.trans (b := max (max (max (max (max (max (max (max (max (A 0 (ix2 s l)) (A 1 (ix2 s l))) (A 2 (ix2 s l))) (A 3 (ix2 s l))) (A 4 (ix2 s l))) (A 5 (ix2 s l))) (A 6 (ix2 s l))) (A 7 (ix2 s l))) (A 8 (ix2 s l))) (A 9 (ix2 s l)) ≤ c) Iff.rfl ?_
  simp only [max_le_iff, Fin.forall_fin_succ, IsEmpty.forall_iff, and_true, and_assoc]
  exact Iff.rfl

/-- A number is at most the smallest entry of a column of ten slabs just when it is at most every entry. -/
theorem le_botV (A : Fin 10 → FVec Ideal S8x128 .f32) (l : Fin 128) (c : EReal) : c ≤ botV A (ix2 0 l) ↔ ∀ e, c ≤ fam A l e := by
  have e : botV A (ix2 0 l) = _ := minDown _ _ _ _ l
  rw [e, Finset.le_inf_iff, Prod.forall]
  refine forall_congr' fun s => ?_
  simp only [Finset.mem_univ, forall_const, fam]
  refine Iff.trans (b := c ≤ min (min (min (min (min (min (min (min (min (A 0 (ix2 s l)) (A 1 (ix2 s l))) (A 2 (ix2 s l))) (A 3 (ix2 s l))) (A 4 (ix2 s l))) (A 5 (ix2 s l))) (A 6 (ix2 s l))) (A 7 (ix2 s l))) (A 8 (ix2 s l))) (A 9 (ix2 s l))) Iff.rfl ?_
  simp only [le_min_iff, Fin.forall_fin_succ, IsEmpty.forall_iff, and_true, and_assoc]
  exact Iff.rfl

/-- A number is at least the largest entry below a level just when it is at least every entry below that level. -/
theorem belowV_le (m : FVec Ideal S1x128 .f32) (A : Fin 10 → FVec Ideal S8x128 .f32) (l : Fin 128) (c : EReal) :
    topV (belowV m A) (ix2 0 l) ≤ c ↔ ∀ e, fam A l e < m (ix2 0 l) → fam A l e ≤ c := by
  rw [topV_le]
  refine forall_congr' fun e => ?_
  have : fam (belowV m A) l e = if fam A l e < m (ix2 0 l) then fam A l e else ⊥ := by
    rw [← word_bot, ← spread_apply m e.1 l]
    exact select_ofBool _ _ _
  rw [this]
  split <;> simp [*]

/-- A number is at most the smallest entry above a level just when it is at most every entry above that level. -/
theorem le_aboveV (m : FVec Ideal S1x128 .f32) (A : Fin 10 → FVec Ideal S8x128 .f32) (l : Fin 128) (c : EReal) :
    c ≤ botV (aboveV m A) (ix2 0 l) ↔ ∀ e, m (ix2 0 l) < fam A l e → c ≤ fam A l e := by
  rw [le_botV]
  refine forall_congr' fun e => ?_
  have : fam (aboveV m A) l e = if m (ix2 0 l) < fam A l e then fam A l e else ⊤ := by
    rw [← word_top, ← spread_apply m e.1 l]
    exact select_ofBool _ _ _
  rw [this]
  split <;> simp [*]

/-- A count down the columns of ten blocks, place by place. -/
theorem cnt_fam (A : Fin 10 → FVec Ideal S8x128 .f32) (l : Fin 128) (P : EReal → Prop) [DecidablePred P] :
    cnt (fam A l) P = ∑ s : Fin 8, ∑ j : Fin 10, one (P (A j (ix2 s l))) := by
  unfold cnt
  rw [Finset.card_filter, Fintype.sum_prod_type]
  refine Finset.sum_congr rfl fun s _ => Finset.sum_congr rfl fun j _ => ?_
  unfold one fam
  congr

/-- The count the kernel makes of a column's entries equal to a level is their number. -/
theorem countV_apply (m : FVec Ideal S1x128 .f32) (A : Fin 10 → FVec Ideal S8x128 .f32) (l : Fin 128) :
    countV m A (ix2 0 l) = ((cnt (fam A l) (· = m (ix2 0 l)) : ℕ) : EReal) := by
  have e : countV m A (ix2 0 l) = _ := sumDown _ _ _ _ l
  rw [e, cnt_fam, Nat.cast_sum]
  refine Finset.sum_congr rfl fun s _ => ?_
  have e : ∀ a : FVec Ideal S8x128 .f32, meetV m a (ix2 s l) = ((one (a (ix2 s l) = m (ix2 0 l)) : ℕ) : EReal) := fun a => by
    rw [← spread_apply m s l]
    refine (bit_number (a (ix2 s l) = broadcastTo S8x128 m broadcasts_S1x128_S8x128 (ix2 s l))).trans ?_
    unfold one; split <;> simp
  simp only [addf_apply, e, Fin.sum_univ_succ, Nat.cast_add, Fin.sum_univ_zero, Nat.cast_zero, add_zero]
  rw [show (broadcast S8x128 (FloatOps.ofBits .f32 0x00000000#32) : FVec Ideal S8x128 .f32) (ix2 s l) = 0 from Ideal.ofBits_zero_f32, zero_add]
  simp only [add_assoc]
  rfl

/-- A choice by two bits. -/
theorem select_and {α : Type} (p r : Prop) [Decidable p] [Decidable r] (a b : α) :
    Scalar.select (Scalar.andi (BitVec.ofBool (decide p)) (BitVec.ofBool (decide r))) a b = if p ∧ r then a else b := by
  by_cases hp : p <;> by_cases hr : r <;> simp [Scalar.select, Scalar.andi, IntOp.andi, hp, hr]

/-- The level after a value, entry by entry. -/
theorem LevelV.apply {A : Fin 10 → FVec Ideal S8x128 .f32} {cum t m cum' t' : FVec Ideal S1x128 .f32} (h : LevelV A cum t m cum' t') (l : Fin 128) (C : ℕ)
    (hC : cum (ix2 0 l) = (C : EReal)) :
    cum' (ix2 0 l) = ((C + cnt (fam A l) (· = m (ix2 0 l)) : ℕ) : EReal)
    ∧ t' (ix2 0 l) = t (ix2 0 l) + if C < 10 ∧ 10 ≤ C + cnt (fam A l) (· = m (ix2 0 l)) then m (ix2 0 l) else 0 := by
  have h1 : cum' (ix2 0 l) = ((C + cnt (fam A l) (· = m (ix2 0 l)) : ℕ) : EReal) := by
    rw [h.count, addf_apply, countV_apply, hC, Nat.cast_add]
  refine ⟨h1, ?_⟩
  rw [h.level, addf_apply]
  congr 1
  refine (select_and (cum (ix2 0 l) < Ideal.ofBits .f32 0x41200000#32) (Ideal.ofBits .f32 0x41200000#32 ≤ cum' (ix2 0 l)) _ _).trans ?_
  rw [hC, h1, word_ten]
  simp only [Nat.cast_lt, Nat.cast_le]
  rw [show row 0x00000000#32 (ix2 0 l) = 0 from Ideal.ofBits_zero_f32]

/-- How far the steps down have come, for column `l`. -/
def GoingDown (A : Fin 10 → FVec Ideal S8x128 .f32) (l : Fin 128) (i : ℕ) (m cum t : FVec Ideal S1x128 .f32) : Prop :=
  ∃ C : ℕ, cum (ix2 0 l) = (C : EReal) ∧ Going (fam A l) id i (m (ix2 0 l)) C (t (ix2 0 l))

/-- The first step down takes the largest entry. -/
theorem GoingDown.first {A : Fin 10 → FVec Ideal S8x128 .f32} {l : Fin 128} {cum t cum' t' : FVec Ideal S1x128 .f32} (hA : ∀ e, fam A l e < ⊤)
    (hc : cum (ix2 0 l) = 0) (ht : t (ix2 0 l) = 0) (h : LevelV A cum t (topV A) cum' t') : GoingDown A l 1 (topV A) cum' t' := by
  obtain ⟨h1, h2⟩ := h.apply l 0 (by rw [hc, Nat.cast_zero])
  refine ⟨_, h1, Step.going (by simp) ⟨fun c => ?_, rfl, h2⟩ (by rw [ht]; exact going_start id ⊤ hA)⟩
  rw [topV_le]
  exact forall_congr' fun e => by simp [hA e]

/-- A further step down takes the largest entry below the last. -/
theorem GoingDown.next {A : Fin 10 → FVec Ideal S8x128 .f32} {l : Fin 128} {i : ℕ} {m cum t cum' t' : FVec Ideal S1x128 .f32}
    (g : GoingDown A l i m cum t) (h : LevelV A cum t (topV (belowV m A)) cum' t') : GoingDown A l (i + 1) (topV (belowV m A)) cum' t' := by
  obtain ⟨C, hC, g⟩ := g
  obtain ⟨h1, h2⟩ := h.apply l C hC
  exact ⟨_, h1, Step.going (by simp) ⟨fun c => belowV_le m A l c, rfl, h2⟩ g⟩

/-- How far the steps up have come, for column `l`. -/
def GoingUp (A : Fin 10 → FVec Ideal S8x128 .f32) (l : Fin 128) (i : ℕ) (m cum t : FVec Ideal S1x128 .f32) : Prop :=
  ∃ C : ℕ, cum (ix2 0 l) = (C : EReal) ∧ Going (α := ERealᵒᵈ) (fam A l) id i (m (ix2 0 l)) C (t (ix2 0 l))

/-- The first step up takes the smallest entry. -/
theorem GoingUp.first {A : Fin 10 → FVec Ideal S8x128 .f32} {l : Fin 128} {cum t cum' t' : FVec Ideal S1x128 .f32} (hA : ∀ e, ⊥ < fam A l e)
    (hc : cum (ix2 0 l) = 0) (ht : t (ix2 0 l) = 0) (h : LevelV A cum t (botV A) cum' t') : GoingUp A l 1 (botV A) cum' t' := by
  obtain ⟨h1, h2⟩ := h.apply l 0 (by rw [hc, Nat.cast_zero])
  refine ⟨_, h1, Step.going (α := ERealᵒᵈ) (by simp) ⟨fun c => ?_, rfl, h2⟩ (by rw [ht]; exact going_start (α := ERealᵒᵈ) id (⊥ : EReal) hA)⟩
  refine (le_botV A l c).trans ?_
  exact forall_congr' fun e => ⟨fun h _ => h, fun h => h (hA e)⟩

/-- A further step up takes the smallest entry above the last. -/
theorem GoingUp.next {A : Fin 10 → FVec Ideal S8x128 .f32} {l : Fin 128} {i : ℕ} {m cum t cum' t' : FVec Ideal S1x128 .f32}
    (g : GoingUp A l i m cum t) (h : LevelV A cum t (botV (aboveV m A)) cum' t') : GoingUp A l (i + 1) (botV (aboveV m A)) cum' t' := by
  obtain ⟨C, hC, g⟩ := g
  obtain ⟨h1, h2⟩ := h.apply l C hC
  exact ⟨_, h1, Step.going (α := ERealᵒᵈ) (by simp) ⟨fun c => le_aboveV m A l c, rfl, h2⟩ g⟩

/-- The ten largest blocks of the stream. -/
def A2 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) : Fin 10 → FVec Ideal S8x128 .f32 :=
  blocks (st_k0_t2 Variants.none c none i arg1 harg1 arg2 harg2 arg3 harg3 arg4 harg4 arg5 harg5 arg6 harg6 arg7 harg7 arg8 harg8 arg9 harg9 k0_pay309 (harg3.unread x2)
      (k0_pay309, k0_pay309, k0_pay309, k0_pay309, k0_pay309, k0_pay309, k0_pay309, k0_pay309, k0_pay309, k0_pay309) (Scf.trips k0_t2_loop.lb k0_t2_loop.ub k0_t2_loop.st))

/-- The ten smallest blocks of the stream. -/
def A4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) : Fin 10 → FVec Ideal S8x128 .f32 :=
  blocks (st_k0_t4 Variants.none c none i arg1 harg1 arg2 harg2 arg3 harg3 arg4 harg4 arg5 harg5 arg6 harg6 arg7 harg7 arg8 harg8 arg9 harg9 k0_pay310 (harg3.unread x2)
      (k0_pay310, k0_pay310, k0_pay310, k0_pay310, k0_pay310, k0_pay310, k0_pay310, k0_pay310, k0_pay310, k0_pay310) (Scf.trips k0_t4_loop.lb k0_t4_loop.ub k0_t4_loop.st))

set_option maxHeartbeats 4000000 in
/-- After the ten steps down. -/
theorem down_done (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (l : Fin 128) (hA : ∀ e, fam (A2 c i arg1 harg1 arg2 harg2 arg3 harg3 arg4 harg4 arg5 harg5 arg6 harg6 arg7 harg7 arg8 harg8 arg9 harg9 x2) l e < ⊤) :
    GoingDown (A2 c i arg1 harg1 arg2 harg2 arg3 harg3 arg4 harg4 arg5 harg5 arg6 harg6 arg7 harg7 arg8 harg8 arg9 harg9 x2) l 10 (run.sl.v1645 c i arg1 harg1 arg2 harg2 arg3 harg3 arg4 harg4 arg5 harg5 arg6 harg6 arg7 harg7 arg8 harg8 arg9 harg9 x2) (run.sl.v1701 c i arg1 harg1 arg2 harg2 arg3 harg3 arg4 harg4 arg5 harg5 arg6 harg6 arg7 harg7 arg8 harg8 arg9 harg9 x2) (run.sl.v1707 c i arg1 harg1 arg2 harg2 arg3 harg3 arg4 harg4 arg5 harg5 arg6 harg6 arg7 harg7 arg8 harg8 arg9 harg9 x2) := by
  have z : (k0_pay85 : FVec Ideal S1x128 .f32) (ix2 0 l) = 0 := Ideal.ofBits_zero_f32
  have g1 : GoingDown (A2 c i arg1 harg1 arg2 harg2 arg3 harg3 arg4 harg4 arg5 harg5 arg6 harg6 arg7 harg7 arg8 harg8 arg9 harg9 x2) l 1 (run.sl.r_36 c i arg1 harg1 arg2 harg2 arg3 harg3 arg4 harg4 arg5 harg5 arg6 harg6 arg7 harg7 arg8 harg8 arg9 harg9 x2) (run.sl.v675 c i arg1 harg1 arg2 harg2 arg3 harg3 arg4 harg4 arg5 harg5 arg6 harg6 arg7 harg7 arg8 harg8 arg9 harg9 x2) (run.sl.v681 c i arg1 harg1 arg2 harg2 arg3 harg3 arg4 harg4 arg5 harg5 arg6 harg6 arg7 harg7 arg8 harg8 arg9 harg9 x2) :=
    GoingDown.first hA (cum := k0_pay85) (t := k0_pay86) z z ⟨rfl, rfl⟩
  have g2 : GoingDown (A2 c i arg1 harg1 arg2 harg2 arg3 harg3 arg4 harg4 arg5 harg5 arg6 harg6 arg7 harg7 arg8 harg8 arg9 harg9 x2) l 2 (run.sl.v733 c i arg1 harg1 arg2 harg2 arg3 harg3 arg4 harg4 arg5 harg5 arg6 harg6 arg7 harg7 arg8 harg8 arg9 harg9 x2) (run.sl.v789 c i arg1 harg1 arg2 harg2 arg3 harg3 arg4 harg4 arg5 harg5 arg6 harg6 arg7 harg7 arg8 harg8 arg9 harg9 x2) (run.sl.v795 c i arg1 harg1 arg2 harg2 arg3 harg3 arg4 harg4 arg5 harg5 arg6 harg6 arg7 harg7 arg8 harg8 arg9 harg9 x2) := g1.next ⟨rfl, rfl⟩
  have g3 : GoingDown (A2 c i arg1 harg1 arg2 harg2 arg3 harg3 arg4 harg4 arg5 harg5 arg6 harg6 arg7 harg7 arg8 harg8 arg9 harg9 x2) l 3 (run.sl.v847 c i arg1 harg1 arg2 harg2 arg3 harg3 arg4 harg4 arg5 harg5 arg6 harg6 arg7 harg7 arg8 harg8 arg9 harg9 x2) (run.sl.v903 c i arg1 harg1 arg2 harg2 arg3 harg3 arg4 harg4 arg5 harg5 arg6 harg6 arg7 harg7 arg8 harg8 arg9 harg9 x2) (run.sl.v909 c i arg1 harg1 arg2 harg2 arg3 harg3 arg4 harg4 arg5 harg5 arg6 harg6 arg7 harg7 arg8 harg8 arg9 harg9 x2) := g2.next ⟨rfl, rfl⟩
  have g4 : GoingDown (A2 c i arg1 harg1 arg2 harg2 arg3 harg3 arg4 harg4 arg5 harg5 arg6 harg6 arg7 harg7 arg8 harg8 arg9 harg9 x2) l 4 (run.sl.v961 c i arg1 harg1 arg2 harg2 arg3 harg3 arg4 harg4 arg5 harg5 arg6 harg6 arg7 harg7 arg8 harg8 arg9 harg9 x2) (run.sl.v1017 c i arg1 harg1 arg2 harg2 arg3 harg3 arg4 harg4 arg5 harg5 arg6 harg6 arg7 harg7 arg8 harg8 arg9 harg9 x2) (run.sl.v1023 c i arg1 harg1 arg2 harg2 arg3 harg3 arg4 harg4 arg5 harg5 arg6 harg6 arg7 harg7 arg8 harg8 arg9 harg9 x2) := g3.next ⟨rfl, rfl⟩
  have g5 : GoingDown (A2 c i arg1 harg1 arg2 harg2 arg3 harg3 arg4 harg4 arg5 harg5 arg6 harg6 arg7 harg7 arg8 harg8 arg9 harg9 x2) l 5 (run.sl.v1075 c i arg1 harg1 arg2 harg2 arg3 harg3 arg4 harg4 arg5 harg5 arg6 harg6 arg7 harg7 arg8 harg8 arg9 harg9 x2) (run.sl.v1131 c i arg1 harg1 arg2 harg2 arg3 harg3 arg4 harg4 arg5 harg5 arg6 harg6 arg7 harg7 arg8 harg8 arg9 harg9 x2) (run.sl.v1137 c i arg1 harg1 arg2 harg2 arg3 harg3 arg4 harg4 arg5 harg5 arg6 harg6 arg7 harg7 arg8 harg8 arg9 harg9 x2) := g4.next ⟨rfl, rfl⟩
  have g6 : GoingDown (A2 c i arg1 harg1 arg2 harg2 arg3 harg3 arg4 harg4 arg5 harg5 arg6 harg6 arg7 harg7 arg8 harg8 arg9 harg9 x2) l 6 (run.sl.v1189 c i arg1 harg1 arg2 harg2 arg3 harg3 arg4 harg4 arg5 harg5 arg6 harg6 arg7 harg7 arg8 harg8 arg9 harg9 x2) (run.sl.v1245 c i arg1 harg1 arg2 harg2 arg3 harg3 arg4 harg4 arg5 harg5 arg6 harg6 arg7 harg7 arg8 harg8 arg9 harg9 x2) (run.sl.v1251 c i arg1 harg1 arg2 harg2 arg3 harg3 arg4 harg4 arg5 harg5 arg6 harg6 arg7 harg7 arg8 harg8 arg9 harg9 x2) := g5.next ⟨rfl, rfl⟩
  have g7 : GoingDown (A2 c i arg1 harg1 arg2 harg2 arg3 harg3 arg4 harg4 arg5 harg5 arg6 harg6 arg7 harg7 arg8 harg8 arg9 harg9 x2) l 7 (run.sl.v1303 c i arg1 harg1 arg2 harg2 arg3 harg3 arg4 harg4 arg5 harg5 arg6 harg6 arg7 harg7 arg8 harg8 arg9 harg9 x2) (run.sl.v1359 c i arg1 harg1 arg2 harg2 arg3 harg3 arg4 harg4 arg5 harg5 arg6 harg6 arg7 harg7 arg8 harg8 arg9 harg9 x2) (run.sl.v1365 c i arg1 harg1 arg2 harg2 arg3 harg3 arg4 harg4 arg5 harg5 arg6 harg6 arg7 harg7 arg8 harg8 arg9 harg9 x2) := g6.next ⟨rfl, rfl⟩
  have g8 : GoingDown (A2 c i arg1 harg1 arg2 harg2 arg3 harg3 arg4 harg4 arg5 harg5 arg6 harg6 arg7 harg7 arg8 harg8 arg9 harg9 x2) l 8 (run.sl.v1417 c i arg1 harg1 arg2 harg2 arg3 harg3 arg4 harg4 arg5 harg5 arg6 harg6 arg7 harg7 arg8 harg8 arg9 harg9 x2) (run.sl.v1473 c i arg1 harg1 arg2 harg2 arg3 harg3 arg4 harg4 arg5 harg5 arg6 harg6 arg7 harg7 arg8 harg8 arg9 harg9 x2) (run.sl.v1479 c i arg1 harg1 arg2 harg2 arg3 harg3 arg4 harg4 arg5 harg5 arg6 harg6 arg7 harg7 arg8 harg8 arg9 harg9 x2) := g7.next ⟨rfl, rfl⟩
  have g9 : GoingDown (A2 c i arg1 harg1 arg2 harg2 arg3 harg3 arg4 harg4 arg5 harg5 arg6 harg6 arg7 harg7 arg8 harg8 arg9 harg9 x2) l 9 (run.sl.v1531 c i arg1 harg1 arg2 harg2 arg3 harg3 arg4 harg4 arg5 harg5 arg6 harg6 arg7 harg7 arg8 harg8 arg9 harg9 x2) (run.sl.v1587 c i arg1 harg1 arg2 harg2 arg3 harg3 arg4 harg4 arg5 harg5 arg6 harg6 arg7 harg7 arg8 harg8 arg9 harg9 x2) (run.sl.v1593 c i arg1 harg1 arg2 harg2 arg3 harg3 arg4 harg4 arg5 harg5 arg6 harg6 arg7 harg7 arg8 harg8 arg9 harg9 x2) := g8.next ⟨rfl, rfl⟩
  exact g9.next ⟨rfl, rfl⟩

set_option maxHeartbeats 4000000 in
/-- After the ten steps up. -/
theorem up_done (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (l : Fin 128) (hA : ∀ e, ⊥ < fam (A4 c i arg1 harg1 arg2 harg2 arg3 harg3 arg4 harg4 arg5 harg5 arg6 harg6 arg7 harg7 arg8 harg8 arg9 harg9 x2) l e) :
    GoingUp (A4 c i arg1 harg1 arg2 harg2 arg3 harg3 arg4 harg4 arg5 harg5 arg6 harg6 arg7 harg7 arg8 harg8 arg9 harg9 x2) l 10 (run.sl.v1645_1 c i arg1 harg1 arg2 harg2 arg3 harg3 arg4 harg4 arg5 harg5 arg6 harg6 arg7 harg7 arg8 harg8 arg9 harg9 x2) (run.sl.v1701_1 c i arg1 harg1 arg2 harg2 arg3 harg3 arg4 harg4 arg5 harg5 arg6 harg6 arg7 harg7 arg8 harg8 arg9 harg9 x2) (run.sl.v1707_1 c i arg1 harg1 arg2 harg2 arg3 harg3 arg4 harg4 arg5 harg5 arg6 harg6 arg7 harg7 arg8 harg8 arg9 harg9 x2) := by
  have z : (k0_pay206 : FVec Ideal S1x128 .f32) (ix2 0 l) = 0 := Ideal.ofBits_zero_f32
  have g1 : GoingUp (A4 c i arg1 harg1 arg2 harg2 arg3 harg3 arg4 harg4 arg5 harg5 arg6 harg6 arg7 harg7 arg8 harg8 arg9 harg9 x2) l 1 (run.sl.r_49 c i arg1 harg1 arg2 harg2 arg3 harg3 arg4 harg4 arg5 harg5 arg6 harg6 arg7 harg7 arg8 harg8 arg9 harg9 x2) (run.sl.v675_1 c i arg1 harg1 arg2 harg2 arg3 harg3 arg4 harg4 arg5 harg5 arg6 harg6 arg7 harg7 arg8 harg8 arg9 harg9 x2) (run.sl.v681_1 c i arg1 harg1 arg2 harg2 arg3 harg3 arg4 harg4 arg5 harg5 arg6 harg6 arg7 harg7 arg8 harg8 arg9 harg9 x2) :=
    GoingUp.first hA (cum := k0_pay206) (t := k0_pay207) z z ⟨rfl, rfl⟩
  have g2 : GoingUp (A4 c i arg1 harg1 arg2 harg2 arg3 harg3 arg4 harg4 arg5 harg5 arg6 harg6 arg7 harg7 arg8 harg8 arg9 harg9 x2) l 2 (run.sl.v733_1 c i arg1 harg1 arg2 harg2 arg3 harg3 arg4 harg4 arg5 harg5 arg6 harg6 arg7 harg7 arg8 harg8 arg9 harg9 x2) (run.sl.v789_1 c i arg1 harg1 arg2 harg2 arg3 harg3 arg4 harg4 arg5 harg5 arg6 harg6 arg7 harg7 arg8 harg8 arg9 harg9 x2) (run.sl.v795_1 c i arg1 harg1 arg2 harg2 arg3 harg3 arg4 harg4 arg5 harg5 arg6 harg6 arg7 harg7 arg8 harg8 arg9 harg9 x2) := g1.next ⟨rfl, rfl⟩
  have g3 : GoingUp (A4 c i arg1 harg1 arg2 harg2 arg3 harg3 arg4 harg4 arg5 harg5 arg6 harg6 arg7 harg7 arg8 harg8 arg9 harg9 x2) l 3 (run.sl.v847_1 c i arg1 harg1 arg2 harg2 arg3 harg3 arg4 harg4 arg5 harg5 arg6 harg6 arg7 harg7 arg8 harg8 arg9 harg9 x2) (run.sl.v903_1 c i arg1 harg1 arg2 harg2 arg3 harg3 arg4 harg4 arg5 harg5 arg6 harg6 arg7 harg7 arg8 harg8 arg9 harg9 x2) (run.sl.v909_1 c i arg1 harg1 arg2 harg2 arg3 harg3 arg4 harg4 arg5 harg5 arg6 harg6 arg7 harg7 arg8 harg8 arg9 harg9 x2) := g2.next ⟨rfl, rfl⟩
  have g4 : GoingUp (A4 c i arg1 harg1 arg2 harg2 arg3 harg3 arg4 harg4 arg5 harg5 arg6 harg6 arg7 harg7 arg8 harg8 arg9 harg9 x2) l 4 (run.sl.v961_1 c i arg1 harg1 arg2 harg2 arg3 harg3 arg4 harg4 arg5 harg5 arg6 harg6 arg7 harg7 arg8 harg8 arg9 harg9 x2) (run.sl.v1017_1 c i arg1 harg1 arg2 harg2 arg3 harg3 arg4 harg4 arg5 harg5 arg6 harg6 arg7 harg7 arg8 harg8 arg9 harg9 x2) (run.sl.v1023_1 c i arg1 harg1 arg2 harg2 arg3 harg3 arg4 harg4 arg5 harg5 arg6 harg6 arg7 harg7 arg8 harg8 arg9 harg9 x2) := g3.next ⟨rfl, rfl⟩
  have g5 : GoingUp (A4 c i arg1 harg1 arg2 harg2 arg3 harg3 arg4 harg4 arg5 harg5 arg6 harg6 arg7 harg7 arg8 harg8 arg9 harg9 x2) l 5 (run.sl.v1075_1 c i arg1 harg1 arg2 harg2 arg3 harg3 arg4 harg4 arg5 harg5 arg6 harg6 arg7 harg7 arg8 harg8 arg9 harg9 x2) (run.sl.v1131_1 c i arg1 harg1 arg2 harg2 arg3 harg3 arg4 harg4 arg5 harg5 arg6 harg6 arg7 harg7 arg8 harg8 arg9 harg9 x2) (run.sl.v1137_1 c i arg1 harg1 arg2 harg2 arg3 harg3 arg4 harg4 arg5 harg5 arg6 harg6 arg7 harg7 arg8 harg8 arg9 harg9 x2) := g4.next ⟨rfl, rfl⟩
  have g6 : GoingUp (A4 c i arg1 harg1 arg2 harg2 arg3 harg3 arg4 harg4 arg5 harg5 arg6 harg6 arg7 harg7 arg8 harg8 arg9 harg9 x2) l 6 (run.sl.v1189_1 c i arg1 harg1 arg2 harg2 arg3 harg3 arg4 harg4 arg5 harg5 arg6 harg6 arg7 harg7 arg8 harg8 arg9 harg9 x2) (run.sl.v1245_1 c i arg1 harg1 arg2 harg2 arg3 harg3 arg4 harg4 arg5 harg5 arg6 harg6 arg7 harg7 arg8 harg8 arg9 harg9 x2) (run.sl.v1251_1 c i arg1 harg1 arg2 harg2 arg3 harg3 arg4 harg4 arg5 harg5 arg6 harg6 arg7 harg7 arg8 harg8 arg9 harg9 x2) := g5.next ⟨rfl, rfl⟩
  have g7 : GoingUp (A4 c i arg1 harg1 arg2 harg2 arg3 harg3 arg4 harg4 arg5 harg5 arg6 harg6 arg7 harg7 arg8 harg8 arg9 harg9 x2) l 7 (run.sl.v1303_1 c i arg1 harg1 arg2 harg2 arg3 harg3 arg4 harg4 arg5 harg5 arg6 harg6 arg7 harg7 arg8 harg8 arg9 harg9 x2) (run.sl.v1359_1 c i arg1 harg1 arg2 harg2 arg3 harg3 arg4 harg4 arg5 harg5 arg6 harg6 arg7 harg7 arg8 harg8 arg9 harg9 x2) (run.sl.v1365_1 c i arg1 harg1 arg2 harg2 arg3 harg3 arg4 harg4 arg5 harg5 arg6 harg6 arg7 harg7 arg8 harg8 arg9 harg9 x2) := g6.next ⟨rfl, rfl⟩
  have g8 : GoingUp (A4 c i arg1 harg1 arg2 harg2 arg3 harg3 arg4 harg4 arg5 harg5 arg6 harg6 arg7 harg7 arg8 harg8 arg9 harg9 x2) l 8 (run.sl.v1417_1 c i arg1 harg1 arg2 harg2 arg3 harg3 arg4 harg4 arg5 harg5 arg6 harg6 arg7 harg7 arg8 harg8 arg9 harg9 x2) (run.sl.v1473_1 c i arg1 harg1 arg2 harg2 arg3 harg3 arg4 harg4 arg5 harg5 arg6 harg6 arg7 harg7 arg8 harg8 arg9 harg9 x2) (run.sl.v1479_1 c i arg1 harg1 arg2 harg2 arg3 harg3 arg4 harg4 arg5 harg5 arg6 harg6 arg7 harg7 arg8 harg8 arg9 harg9 x2) := g7.next ⟨rfl, rfl⟩
  have g9 : GoingUp (A4 c i arg1 harg1 arg2 harg2 arg3 harg3 arg4 harg4 arg5 harg5 arg6 harg6 arg7 harg7 arg8 harg8 arg9 harg9 x2) l 9 (run.sl.v1531_1 c i arg1 harg1 arg2 harg2 arg3 harg3 arg4 harg4 arg5 harg5 arg6 harg6 arg7 harg7 arg8 harg8 arg9 harg9 x2) (run.sl.v1587_1 c i arg1 harg1 arg2 harg2 arg3 harg3 arg4 harg4 arg5 harg5 arg6 harg6 arg7 harg7 arg8 harg8 arg9 harg9 x2) (run.sl.v1593_1 c i arg1 harg1 arg2 harg2 arg3 harg3 arg4 harg4 arg5 harg5 arg6 harg6 arg7 harg7 arg8 harg8 arg9 harg9 x2) := g8.next ⟨rfl, rfl⟩
  exact g9.next ⟨rfl, rfl⟩

/-- The other path's level of the smallest is the same. -/
theorem same_lo (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) : run.sl.v1707_2 c i arg1 harg1 arg2 harg2 arg3 harg3 arg4 harg4 arg5 harg5 arg6 harg6 arg7 harg7 arg8 harg8 arg9 harg9 x2 = run.sl.v1707_1 c i arg1 harg1 arg2 harg2 arg3 harg3 arg4 harg4 arg5 harg5 arg6 harg6 arg7 harg7 arg8 harg8 arg9 harg9 x2 := rfl

/-- A sum of ten. -/
theorem sum_ten (g : Fin 10 → ℕ) : ∑ j, g j = g 0 + (g 1 + (g 2 + (g 3 + (g 4 + (g 5 + (g 6 + (g 7 + (g 8 + g 9)))))))) := by
  simp only [Fin.sum_univ_succ, Fin.sum_univ_zero, add_zero]
  rfl

/-- Ten shown entries of each cell count, in each cell, up to ten. -/
theorem cnt_shown (S : Fin 10 → FVec Ideal S8x128 .f32) (x2 : Vec Ideal S5000x128 .f32) (l : Fin 128) (p : EReal → Prop) [DecidablePred p]
    (h : ∀ s, Shows p (at10 S s l) (many p x2 s l 625)) : cnt (fam S l) p = ∑ s : Fin 8, min (many p x2 s l 625) 10 := by
  rw [cnt_fam]
  refine Finset.sum_congr rfl fun s _ => ?_
  have t := Shows.total _ _ (h s)
  simp only [at10, List.map_cons, List.map_nil, List.sum_cons, List.sum_nil, List.length_cons, List.length_nil, Nat.reduceAdd, add_zero] at t
  rw [← t]
  exact sum_ten fun j => one (p (S j (ix2 s l)))

/-- A count of each cell up to ten is at least ten only if the whole count is. -/
theorem capped_ge (f : Fin 8 → ℕ) (h : 10 ≤ ∑ s, min (f s) 10) : 10 ≤ ∑ s, f s :=
  h.trans (Finset.sum_le_sum fun s _ => min_le_left _ _)

/-- A count of each cell up to ten is below ten only if the whole count is. -/
theorem capped_lt (f : Fin 8 → ℕ) (h : ∑ s, min (f s) 10 < 10) : ∑ s, f s < 10 := by
  have e : ∀ s, min (f s) 10 = f s := fun s => by
    have := Finset.single_le_sum (f := fun s => min (f s) 10) (fun _ _ => Nat.zero_le _) (Finset.mem_univ s)
    have : min (f s) 10 ≤ ∑ s, min (f s) 10 := this
    omega
  simpa only [e] using h

/-- Every entry of a cell's stream counts if each satisfies `p`. -/
theorem many_all (p : EReal → Prop) [DecidablePred p] (x : Vec Ideal S5000x128 .f32) (s : Fin 8) (l : Fin 128) (n : ℕ) (h : ∀ r, p (cell x r l)) : many p x s l n = n := by
  unfold many one; simp [h]
/-- No entry of a cell's stream counts if none satisfies `p`. -/
theorem many_none (p : EReal → Prop) [DecidablePred p] (x : Vec Ideal S5000x128 .f32) (s : Fin 8) (l : Fin 128) (n : ℕ) (h : ∀ r, ¬ p (cell x r l)) : many p x s l n = 0 := by
  unfold many one; simp [h]

/-- If no entry of a stream is `p`, none shown is. -/
theorem shown_none (S : Fin 10 → FVec Ideal S8x128 .f32) (l : Fin 128) (p : EReal → Prop) [DecidablePred p]
    (h : ∀ s, Shows p (at10 S s l) 0) (e) : ¬ p (fam S l e) := by
  obtain ⟨s, j⟩ := e
  obtain ⟨h0, h1, h2, h3, h4, h5, h6, h7, h8, h9, -⟩ := h s
  simp only [Nat.zero_sub, lt_irrefl, iff_false] at h0 h1 h2 h3 h4 h5 h6 h7 h8 h9
  fin_cases j <;> assumption

/-- If ten entries of every stream are `p`, all shown are. -/
theorem shown_all (S : Fin 10 → FVec Ideal S8x128 .f32) (l : Fin 128) (p : EReal → Prop) [DecidablePred p]
    (h : ∀ s, Shows p (at10 S s l) 625) (e) : p (fam S l e) := by
  obtain ⟨s, j⟩ := e
  obtain ⟨h0, h1, h2, h3, h4, h5, h6, h7, h8, h9, -⟩ := h s
  norm_num at h0 h1 h2 h3 h4 h5 h6 h7 h8 h9
  fin_cases j <;> assumption

/-- The long way's level of the largest: ten of the column are at or above it, fewer than ten above it. -/
theorem deep_hi (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (l : Fin 128) (hb : ∀ r, ⊥ < cell x2 r l) (ht : ∀ r, cell x2 r l < ⊤) :
    10 ≤ column (fun a => run.sl.v1707 c i arg1 harg1 arg2 harg2 arg3 harg3 arg4 harg4 arg5 harg5 arg6 harg6 arg7 harg7 arg8 harg8 arg9 harg9 x2 (ix2 0 l) ≤ a) x2 l ∧ column (fun a => run.sl.v1707 c i arg1 harg1 arg2 harg2 arg3 harg3 arg4 harg4 arg5 harg5 arg6 harg6 arg7 harg7 arg8 harg8 arg9 harg9 x2 (ix2 0 l) < a) x2 l < 10 := by
  have htr : Scf.trips k0_t2_loop.lb k0_t2_loop.ub k0_t2_loop.st = 625 := by decide
  have sh : ∀ (p : EReal → Prop) [DecidablePred p], Up p → ¬ p ⊥ → ∀ s, Shows p (at10 (A2 c i arg1 harg1 arg2 harg2 arg3 harg3 arg4 harg4 arg5 harg5 arg6 harg6 arg7 harg7 arg8 harg8 arg9 harg9 x2) s l) (many p x2 s l 625) := by
    intro p _ h hp s
    unfold A2; rw [htr]
    exact sweep2 c i arg1 harg1 arg2 harg2 arg3 harg3 arg4 harg4 arg5 harg5 arg6 harg6 arg7 harg7 arg8 harg8 arg9 harg9 x2 s l p h hp 625 le_rfl
  have f1 : ∀ e, fam (A2 c i arg1 harg1 arg2 harg2 arg3 harg3 arg4 harg4 arg5 harg5 arg6 harg6 arg7 harg7 arg8 harg8 arg9 harg9 x2) l e < ⊤ := fun e => lt_top_iff_ne_top.mpr fun he =>
    shown_none _ l (fun a => ⊤ ≤ a) (fun s => by
      have := sh (fun a => ⊤ ≤ a) (fun a b hab ha => ha.trans hab) (by simp) s
      rwa [many_none (fun a => ⊤ ≤ a) _ _ _ _ fun r => not_le.mpr (ht r)] at this) e he.ge
  have f2 : ∀ e, ⊥ < fam (A2 c i arg1 harg1 arg2 harg2 arg3 harg3 arg4 harg4 arg5 harg5 arg6 harg6 arg7 harg7 arg8 harg8 arg9 harg9 x2) l e := fun e =>
    shown_all _ l (fun a => ⊥ < a) (fun s => by
      have := sh (fun a => ⊥ < a) (fun a b hab ha => ha.trans_le hab) (by simp) s
      rwa [many_all (fun a => ⊥ < a) _ _ _ _ hb] at this) e
  obtain ⟨C, -, g⟩ := down_done c i arg1 harg1 arg2 harg2 arg3 harg3 arg4 harg4 arg5 harg5 arg6 harg6 arg7 harg7 arg8 harg8 arg9 harg9 x2 l f1
  obtain ⟨T, ⟨e, he⟩, hT, h1, h2⟩ := g.done
  have hT' : run.sl.v1707 c i arg1 harg1 arg2 harg2 arg3 harg3 arg4 harg4 arg5 harg5 arg6 harg6 arg7 harg7 arg8 harg8 arg9 harg9 x2 (ix2 0 l) = T := hT
  rw [hT']
  rw [cnt_shown _ x2 l _ (sh (fun a => T ≤ a) (fun a b hab ha => ha.trans hab) (not_le.mpr (he ▸ f2 e)))] at h1
  rw [cnt_shown _ x2 l _ (sh (fun a => T < a) (fun a b hab ha => ha.trans_le hab) not_lt_bot)] at h2
  exact ⟨capped_ge _ h1, capped_lt _ h2⟩

/-- The long way's level of the smallest: ten of the column are at or below it, fewer than ten below it. -/
theorem deep_lo (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x2 : Vec Ideal S5000x128 .f32) (l : Fin 128) (hb : ∀ r, ⊥ < cell x2 r l) (ht : ∀ r, cell x2 r l < ⊤) :
    10 ≤ column (fun a => a ≤ run.sl.v1707_1 c i arg1 harg1 arg2 harg2 arg3 harg3 arg4 harg4 arg5 harg5 arg6 harg6 arg7 harg7 arg8 harg8 arg9 harg9 x2 (ix2 0 l)) x2 l ∧ column (fun a => a < run.sl.v1707_1 c i arg1 harg1 arg2 harg2 arg3 harg3 arg4 harg4 arg5 harg5 arg6 harg6 arg7 harg7 arg8 harg8 arg9 harg9 x2 (ix2 0 l)) x2 l < 10 := by
  have htr : Scf.trips k0_t4_loop.lb k0_t4_loop.ub k0_t4_loop.st = 625 := by decide
  have sh : ∀ (p : EReal → Prop) [DecidablePred p], Down p → ¬ p ⊤ → ∀ s, Shows p (at10 (A4 c i arg1 harg1 arg2 harg2 arg3 harg3 arg4 harg4 arg5 harg5 arg6 harg6 arg7 harg7 arg8 harg8 arg9 harg9 x2) s l) (many p x2 s l 625) := by
    intro p _ h hp s
    unfold A4; rw [htr]
    exact sweep4 c i arg1 harg1 arg2 harg2 arg3 harg3 arg4 harg4 arg5 harg5 arg6 harg6 arg7 harg7 arg8 harg8 arg9 harg9 x2 s l p h hp 625 le_rfl
  have f1 : ∀ e, ⊥ < fam (A4 c i arg1 harg1 arg2 harg2 arg3 harg3 arg4 harg4 arg5 harg5 arg6 harg6 arg7 harg7 arg8 harg8 arg9 harg9 x2) l e := fun e => bot_lt_iff_ne_bot.mpr fun he =>
    shown_none _ l (fun a => a ≤ ⊥) (fun s => by
      have := sh (fun a => a ≤ ⊥) (fun a b hab ha => hab.trans ha) (by simp) s
      rwa [many_none (fun a => a ≤ ⊥) _ _ _ _ fun r => not_le.mpr (hb r)] at this) e he.le
  have f2 : ∀ e, fam (A4 c i arg1 harg1 arg2 harg2 arg3 harg3 arg4 harg4 arg5 harg5 arg6 harg6 arg7 harg7 arg8 harg8 arg9 harg9 x2) l e < ⊤ := fun e =>
    shown_all _ l (fun a => a < ⊤) (fun s => by
      have := sh (fun a => a < ⊤) (fun a b hab ha => hab.trans_lt ha) (by simp) s
      rwa [many_all (fun a => a < ⊤) _ _ _ _ ht] at this) e
  obtain ⟨C, -, g⟩ := up_done c i arg1 harg1 arg2 harg2 arg3 harg3 arg4 harg4 arg5 harg5 arg6 harg6 arg7 harg7 arg8 harg8 arg9 harg9 x2 l f1
  obtain ⟨T, ⟨e, he⟩, hT, h1, h2⟩ : ∃ T : EReal, (∃ e, fam (A4 c i arg1 harg1 arg2 harg2 arg3 harg3 arg4 harg4 arg5 harg5 arg6 harg6 arg7 harg7 arg8 harg8 arg9 harg9 x2) l e = T) ∧ run.sl.v1707_1 c i arg1 harg1 arg2 harg2 arg3 harg3 arg4 harg4 arg5 harg5 arg6 harg6 arg7 harg7 arg8 harg8 arg9 harg9 x2 (ix2 0 l) = T
    ∧ 10 ≤ cnt (fam (A4 c i arg1 harg1 arg2 harg2 arg3 harg3 arg4 harg4 arg5 harg5 arg6 harg6 arg7 harg7 arg8 harg8 arg9 harg9 x2) l) (fun a => a ≤ T) ∧ cnt (fam (A4 c i arg1 harg1 arg2 harg2 arg3 harg3 arg4 harg4 arg5 harg5 arg6 harg6 arg7 harg7 arg8 harg8 arg9 harg9 x2) l) (fun a => a < T) < 10 := g.done
  rw [hT]
  rw [cnt_shown _ x2 l _ (sh (fun a => a ≤ T) (fun a b hab ha => hab.trans ha) (not_le.mpr (he ▸ f2 e)))] at h1
  rw [cnt_shown _ x2 l _ (sh (fun a => a < T) (fun a b hab ha => hab.trans_lt ha) not_top_lt)] at h2
  exact ⟨capped_ge _ h1, capped_lt _ h2⟩

end Cert.KernelIdeal.Body

end
-- ==== Proof.Levels.lean ====
/- Both ways to a level choose the same entries: the ten largest and the ten smallest of each column. -/
module

public import proofs.«01_k».proof.Proof.Deep

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- Every entry is finite, and in each column just ten entries are at or above `W` and just ten at or below `V`. -/
structure Tame (x : Vec Ideal S5000x128 .f32) (W V : Fin 128 → EReal) : Prop where
  bot : ∀ r l, ⊥ < cell x r l
  top : ∀ r l, cell x r l < ⊤
  hi : ∀ l, column (fun a => W l ≤ a) x l = 10
  lo : ∀ l, column (fun a => a ≤ V l) x l = 10

section
variable {x : Vec Ideal S5000x128 .f32} {l : Fin 128}

/-- A wider property counts no fewer entries of a column. -/
theorem column_le {p q : EReal → Prop} [DecidablePred p] [DecidablePred q] (h : ∀ a, p a → q a) : column p x l ≤ column q x l := by
  refine Finset.sum_le_sum fun s _ => Finset.sum_le_sum fun k _ => ?_
  unfold one
  by_cases hp : p (cell x (8 * k + s.val) l)
  · rw [if_pos hp, if_pos (h _ hp)]
  · rw [if_neg hp]; exact Nat.zero_le _

/-- Two nested choices of equally many entries are the same. -/
theorem column_same {p q : EReal → Prop} [DecidablePred p] [DecidablePred q] (h : ∀ a, p a → q a) (e : column p x l = column q x l) (s : Fin 8) (k : ℕ) (hk : k < 625) :
    p (cell x (8 * k + s.val) l) ↔ q (cell x (8 * k + s.val) l) := by
  have le1 : ∀ s k, one (p (cell x (8 * k + (s : Fin 8).val) l)) ≤ one (q (cell x (8 * k + s.val) l)) := fun s k => by
    unfold one
    by_cases hp : p (cell x (8 * k + s.val) l)
    · rw [if_pos hp, if_pos (h _ hp)]
    · rw [if_neg hp]; exact Nat.zero_le _
  have e1 := (Finset.sum_eq_sum_iff_of_le (s := Finset.univ) (f := fun s => many p x s l 625) (g := fun s => many q x s l 625)
    fun s _ => Finset.sum_le_sum fun k _ => le1 s k).mp e s (Finset.mem_univ _)
  have e2 := (Finset.sum_eq_sum_iff_of_le fun k _ => le1 s k).mp e1 k (Finset.mem_range.mpr hk)
  unfold one at e2
  refine ⟨h _, fun hq => ?_⟩
  rw [if_pos hq] at e2
  by_contra hp
  rw [if_neg hp] at e2
  exact absurd e2 (by norm_num)

/-- Levels with equally many entries at or above them choose the same ones. -/
theorem agree_hi {T W : EReal} (hT : column (fun a => T ≤ a) x l = 10) (hW : column (fun a => W ≤ a) x l = 10) (s : Fin 8) (k : ℕ) (hk : k < 625) :
    T ≤ cell x (8 * k + s.val) l ↔ W ≤ cell x (8 * k + s.val) l := by
  rcases le_total T W with h | h
  · exact (column_same (p := fun a => W ≤ a) (q := fun a => T ≤ a) (fun a ha => h.trans ha) (hW.trans hT.symm) s k hk).symm
  · exact column_same (p := fun a => T ≤ a) (q := fun a => W ≤ a) (fun a ha => h.trans ha) (hT.trans hW.symm) s k hk

/-- Levels with equally many entries at or below them choose the same ones. -/
theorem agree_lo {T V : EReal} (hT : column (fun a => a ≤ T) x l = 10) (hV : column (fun a => a ≤ V) x l = 10) (s : Fin 8) (k : ℕ) (hk : k < 625) :
    cell x (8 * k + s.val) l ≤ T ↔ cell x (8 * k + s.val) l ≤ V := by
  rcases le_total T V with h | h
  · exact column_same (p := fun a => a ≤ T) (q := fun a => a ≤ V) (fun a ha => ha.trans h) (hT.trans hV.symm) s k hk
  · exact (column_same (p := fun a => a ≤ V) (q := fun a => a ≤ T) (fun a ha => ha.trans h) (hV.trans hT.symm) s k hk).symm

/-- A level with at least ten entries from it on, and fewer beyond it, has just ten. -/
theorem exact_hi {T W : EReal} (h1 : 10 ≤ column (fun a => T ≤ a) x l) (h2 : column (fun a => T < a) x l < 10) (hW : column (fun a => W ≤ a) x l = 10) :
    column (fun a => T ≤ a) x l = 10 := by
  rcases lt_or_ge T W with h | h
  · have := column_le (x := x) (l := l) (p := fun a => W ≤ a) (q := fun a => T < a) fun a ha => h.trans_le ha
    omega
  · have := column_le (x := x) (l := l) (p := fun a => T ≤ a) (q := fun a => W ≤ a) fun a ha => h.trans ha
    omega

/-- The same from below. -/
theorem exact_lo {T V : EReal} (h1 : 10 ≤ column (fun a => a ≤ T) x l) (h2 : column (fun a => a < T) x l < 10) (hV : column (fun a => a ≤ V) x l = 10) :
    column (fun a => a ≤ T) x l = 10 := by
  rcases lt_or_ge V T with h | h
  · have := column_le (x := x) (l := l) (p := fun a => a ≤ V) (q := fun a => a < T) fun a ha => ha.trans_lt h
    omega
  · have := column_le (x := x) (l := l) (p := fun a => a ≤ T) (q := fun a => a ≤ V) fun a ha => ha.trans h
    omega

/-- The entries at or above a level are those above it and those at it. -/
theorem column_split_hi (T : EReal) : column (fun a => T ≤ a) x l = column (fun a => T < a) x l + column (fun a => a = T) x l := by
  unfold column many
  simp only [← Finset.sum_add_distrib]
  refine Finset.sum_congr rfl fun s _ => Finset.sum_congr rfl fun k _ => ?_
  unfold one
  rcases lt_trichotomy T (cell x (8 * k + s.val) l) with h | h | h
  · rw [if_pos h.le, if_pos h, if_neg h.ne']
  · rw [if_pos h.le, if_neg (by rw [h]; exact lt_irrefl _), if_pos h.symm]
  · rw [if_neg (not_le.mpr h), if_neg (not_lt.mpr h.le), if_neg h.ne]

/-- The entries at or below a level are those below it and those at it. -/
theorem column_split_lo (T : EReal) : column (fun a => a ≤ T) x l = column (fun a => a < T) x l + column (fun a => a = T) x l := by
  unfold column many
  simp only [← Finset.sum_add_distrib]
  refine Finset.sum_congr rfl fun s _ => Finset.sum_congr rfl fun k _ => ?_
  unfold one
  rcases lt_trichotomy T (cell x (8 * k + s.val) l) with h | h | h
  · rw [if_neg (not_le.mpr h), if_neg (not_lt.mpr h.le), if_neg h.ne']
  · rw [if_pos h.ge, if_neg (by rw [h]; exact lt_irrefl _), if_pos h.symm]
  · rw [if_pos h.le, if_pos h, if_neg h.ne]
end

/-- A sum of bits down eight rows is a count. -/
theorem bits_down (p : EReal → Prop) [DecidablePred p] (v : Vec Ideal S8x128 .f32) (b : FVec Ideal S8x128 .f32) (a : EReal) (x : Vec Ideal S5000x128 .f32) (k : ℕ) (l : Fin 128)
    (hb : ∀ s, b (ix2 s l) = if p (cell x (8 * k + s.val) l) then 1 else 0) (ha : a = ((∑ s : Fin 8, many p x s l k : ℕ) : EReal)) :
    a + ∑ s : Fin 8, b (ix2 s l) = ((∑ s : Fin 8, many p x s l (k + 1) : ℕ) : EReal) := by
  rw [ha]
  have e : ∀ s : Fin 8, b (ix2 s l) = ((one (p (cell x (8 * k + s.val) l)) : ℕ) : EReal) := fun s => by
    rw [hb]; unfold one; split <;> simp
  simp only [e]
  rw [← Nat.cast_sum, ← Nat.cast_add, ← Finset.sum_add_distrib]
  congr 1
  exact Finset.sum_congr rfl fun s _ => (Finset.sum_range_succ _ _).symm

set_option maxHeartbeats 2000000 in
/-- One trip of the count at and above a level. -/
theorem trip3 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (k : Fin k0_t3_loop.trips) (acc) :
    tripR_k0_t3 Variants.none c none i arg1 harg1 arg2 harg2 arg3 harg3 arg4 harg4 arg5 harg5 arg6 harg6 arg7 harg7 arg8 harg8 arg9 harg9 v0 v1 v2 v329 v546 v562 cst_145 T (harg3.unread x2) k acc
      = (k0_pay378 T acc.1 (rows x2 (8 * k.val)), k0_pay379 T acc.2 (rows x2 (8 * k.val))) := by
  unfold tripR_k0_t3 trip_k0_t3
  dsimp only
  sl_unfold_words
  have hk : k.val < 625 := Nat.lt_of_lt_of_le k.isLt k0_t3_abs.2.1
  simp only [View.readAt_eq_ld, harg3.read_unread]
  erw [ld8 x2 k.val hk]

set_option maxHeartbeats 2000000 in
/-- One trip of the count at and below a level. -/
theorem trip5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (k : Fin k0_t5_loop.trips) (acc) :
    tripR_k0_t5 Variants.none c none i arg1 harg1 arg2 harg2 arg3 harg3 arg4 harg4 arg5 harg5 arg6 harg6 arg7 harg7 arg8 harg8 arg9 harg9 v0 v1 v2 v329 v546 v562 cst_145 T (harg3.unread x2) k acc
      = (k0_pay384 T acc.1 (rows x2 (8 * k.val)), k0_pay385 T acc.2 (rows x2 (8 * k.val))) := by
  unfold tripR_k0_t5 trip_k0_t5
  dsimp only
  sl_unfold_words
  have hk : k.val < 625 := Nat.lt_of_lt_of_le k.isLt k0_t5_abs.2.1
  simp only [View.readAt_eq_ld, harg3.read_unread]
  erw [ld8 x2 k.val hk]

/-- A comparison with a row of levels as a number. -/
theorem bit_lt (v : Vec Ideal S8x128 .f32) (T : FVec Ideal S1x128 .f32) (s : Fin 8) (l : Fin 128) (hw) :
    (sitofp (F := Ideal) .f32 (extui 32 (cmpf (F := Ideal) (φ := .f32) .ogt v (broadcastTo S8x128 T broadcasts_S1x128_S8x128)) hw) (ix2 s l) : EReal) = if T (ix2 0 l) < v (ix2 s l) then 1 else 0 := by
  rw [← spread_apply T s l]; exact bit_number _
/-- The comparison "below its column's level" as a number, one or zero. -/
theorem bit_gt (v : Vec Ideal S8x128 .f32) (T : FVec Ideal S1x128 .f32) (s : Fin 8) (l : Fin 128) (hw) :
    (sitofp (F := Ideal) .f32 (extui 32 (cmpf (F := Ideal) (φ := .f32) .olt v (broadcastTo S8x128 T broadcasts_S1x128_S8x128)) hw) (ix2 s l) : EReal) = if v (ix2 s l) < T (ix2 0 l) then 1 else 0 := by
  rw [← spread_apply T s l]; exact bit_number _
/-- The comparison "at its column's level" as a number, one or zero. -/
theorem bit_eq (v : Vec Ideal S8x128 .f32) (T : FVec Ideal S1x128 .f32) (s : Fin 8) (l : Fin 128) (hw) :
    (sitofp (F := Ideal) .f32 (extui 32 (cmpf (F := Ideal) (φ := .f32) .oeq v (broadcastTo S8x128 T broadcasts_S1x128_S8x128)) hw) (ix2 s l) : EReal) = if v (ix2 s l) = T (ix2 0 l) then 1 else 0 := by
  rw [← spread_apply T s l]; exact bit_number _

/-- The counts above and at a level. -/
theorem sweep3 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (l : Fin 128) (n : ℕ) (hn : n ≤ 625) :
    (st_k0_t3 Variants.none c none i arg1 harg1 arg2 harg2 arg3 harg3 arg4 harg4 arg5 harg5 arg6 harg6 arg7 harg7 arg8 harg8 arg9 harg9 v0 v1 v2 v329 v546 v562 cst_145 T (harg3.unread x2) (k0_pay376, k0_pay376) n).1 (ix2 0 l)
      = ((∑ s : Fin 8, many (fun a => T (ix2 0 l) < a) x2 s l n : ℕ) : EReal)
    ∧ (st_k0_t3 Variants.none c none i arg1 harg1 arg2 harg2 arg3 harg3 arg4 harg4 arg5 harg5 arg6 harg6 arg7 harg7 arg8 harg8 arg9 harg9 v0 v1 v2 v329 v546 v562 cst_145 T (harg3.unread x2) (k0_pay376, k0_pay376) n).2 (ix2 0 l)
      = ((∑ s : Fin 8, many (fun a => a = T (ix2 0 l)) x2 s l n : ℕ) : EReal) := by
  induction n with
  | zero =>
    rw [st_k0_t3_zero]
    have z : (k0_pay376 : FVec Ideal S1x128 .f32) (ix2 0 l) = 0 := Ideal.ofBits_zero_f32
    simp [many, z]
  | succ n ih =>
    have hlt : n < k0_t3_loop.trips := lt_of_lt_of_eq (by omega : n < 625) (by decide)
    rw [st_k0_t3_succ (k := ⟨n, hlt⟩), trip3]
    obtain ⟨h1, h2⟩ := ih (by omega)
    refine ⟨?_, ?_⟩
    · dsimp only
      simp only [k0_pay378, k0_pay377, shapeCast_self]
      rw [addf_apply]
      refine (congrArg _ (sumDown _ _ _ _ l)).trans ?_
      exact bits_down _ (rows x2 (8 * n)) _ _ x2 n l (fun s => bit_lt (rows x2 (8 * n)) T s l _) h1
    · dsimp only
      simp only [k0_pay379, k0_pay377, shapeCast_self]
      rw [addf_apply]
      refine (congrArg _ (sumDown _ _ _ _ l)).trans ?_
      exact bits_down _ (rows x2 (8 * n)) _ _ x2 n l (fun s => bit_eq (rows x2 (8 * n)) T s l _) h2

/-- The counts below and at a level. -/
theorem sweep5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (l : Fin 128) (n : ℕ) (hn : n ≤ 625) :
    (st_k0_t5 Variants.none c none i arg1 harg1 arg2 harg2 arg3 harg3 arg4 harg4 arg5 harg5 arg6 harg6 arg7 harg7 arg8 harg8 arg9 harg9 v0 v1 v2 v329 v546 v562 cst_145 T (harg3.unread x2) (k0_pay382, k0_pay382) n).1 (ix2 0 l)
      = ((∑ s : Fin 8, many (fun a => a < T (ix2 0 l)) x2 s l n : ℕ) : EReal)
    ∧ (st_k0_t5 Variants.none c none i arg1 harg1 arg2 harg2 arg3 harg3 arg4 harg4 arg5 harg5 arg6 harg6 arg7 harg7 arg8 harg8 arg9 harg9 v0 v1 v2 v329 v546 v562 cst_145 T (harg3.unread x2) (k0_pay382, k0_pay382) n).2 (ix2 0 l)
      = ((∑ s : Fin 8, many (fun a => a = T (ix2 0 l)) x2 s l n : ℕ) : EReal) := by
  induction n with
  | zero =>
    rw [st_k0_t5_zero]
    have z : (k0_pay382 : FVec Ideal S1x128 .f32) (ix2 0 l) = 0 := Ideal.ofBits_zero_f32
    simp [many, z]
  | succ n ih =>
    have hlt : n < k0_t5_loop.trips := lt_of_lt_of_eq (by omega : n < 625) (by decide)
    rw [st_k0_t5_succ (k := ⟨n, hlt⟩), trip5]
    obtain ⟨h1, h2⟩ := ih (by omega)
    refine ⟨?_, ?_⟩
    · dsimp only
      simp only [k0_pay384, k0_pay383, shapeCast_self]
      rw [addf_apply]
      refine (congrArg _ (sumDown _ _ _ _ l)).trans ?_
      exact bits_down _ (rows x2 (8 * n)) _ _ x2 n l (fun s => bit_gt (rows x2 (8 * n)) T s l _) h1
    · dsimp only
      simp only [k0_pay385, k0_pay383, shapeCast_self]
      rw [addf_apply]
      refine (congrArg _ (sumDown _ _ _ _ l)).trans ?_
      exact bits_down _ (rows x2 (8 * n)) _ _ x2 n l (fun s => bit_eq (rows x2 (8 * n)) T s l _) h2

/-- A share of one: ten less the entries beyond the level, over those at it, when they make ten together. -/
theorem share_one (a b : ℕ) (h : a + b = 10) (hb : 1 ≤ b) :
    min (1 : EReal) (max 0 (Ideal.div (((10 : ℕ) : EReal) - (a : EReal)) (max (b : EReal) 1))) = 1 := by
  have e1 : ((10 : ℕ) : EReal) - (a : EReal) = ((b : ℝ) : EReal) := by
    have : ((10 : ℕ) : EReal) = ((10 : ℝ) : EReal) := by norm_cast
    rw [this, show (a : EReal) = ((a : ℝ) : EReal) by norm_cast, ← EReal.coe_sub]
    congr 1
    have : ((a + b : ℕ) : ℝ) = 10 := by rw [h]; norm_num
    push_cast at this; linarith
  have e2 : max (b : EReal) 1 = ((b : ℝ) : EReal) := by
    rw [max_eq_left (by exact_mod_cast hb)]; norm_cast
  have hb0 : (b : ℝ) ≠ 0 := by have : 0 < b := hb; positivity
  rw [e1, e2, Ideal.div_coe hb0, ← EReal.coe_mul, mul_one_div_cancel hb0]
  simp

/-- The share at the largest side's level: the places left over the number of entries there, kept between zero and one. -/
theorem pay380_apply (a b : FVec Ideal S1x128 .f32) (l : Fin 128) :
    k0_pay380 a b (ix2 0 l) = min (1 : EReal) (max 0 (Ideal.div (((10 : ℕ) : EReal) - a (ix2 0 l)) (max (b (ix2 0 l)) 1))) := by
  simp only [k0_pay380, shapeCast_self]
  rw [← word_ten, ← word_one, ← Ideal.ofBits_zero_f32]; rfl

/-- The share at the smallest side's level, likewise. -/
theorem pay386_apply (a b : FVec Ideal S1x128 .f32) (l : Fin 128) :
    k0_pay386 a b (ix2 0 l) = min (1 : EReal) (max 0 (Ideal.div (((10 : ℕ) : EReal) - a (ix2 0 l)) (max (b (ix2 0 l)) 1))) := by
  simp only [k0_pay386, shapeCast_self]
  rw [← word_ten, ← word_one, ← Ideal.ofBits_zero_f32]; rfl

/-- The share of the entries at the largest side's level is one. -/
theorem share_hi (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (l : Fin 128)
    (h1 : column (fun a => T (ix2 0 l) ≤ a) x2 l = 10) (h2 : column (fun a => T (ix2 0 l) < a) x2 l < 10) :
    k0_pay380 (st_k0_t3 Variants.none c none i arg1 harg1 arg2 harg2 arg3 harg3 arg4 harg4 arg5 harg5 arg6 harg6 arg7 harg7 arg8 harg8 arg9 harg9 v0 v1 v2 v329 v546 v562 cst_145 T (harg3.unread x2) (k0_pay376, k0_pay376) (Scf.trips k0_t3_loop.lb k0_t3_loop.ub k0_t3_loop.st)).1
      (st_k0_t3 Variants.none c none i arg1 harg1 arg2 harg2 arg3 harg3 arg4 harg4 arg5 harg5 arg6 harg6 arg7 harg7 arg8 harg8 arg9 harg9 v0 v1 v2 v329 v546 v562 cst_145 T (harg3.unread x2) (k0_pay376, k0_pay376) (Scf.trips k0_t3_loop.lb k0_t3_loop.ub k0_t3_loop.st)).2 (ix2 0 l) = 1 := by
  have htr : Scf.trips k0_t3_loop.lb k0_t3_loop.ub k0_t3_loop.st = 625 := by decide
  obtain ⟨e1, e2⟩ := sweep3 c i arg1 harg1 arg2 harg2 arg3 harg3 arg4 harg4 arg5 harg5 arg6 harg6 arg7 harg7 arg8 harg8 arg9 harg9 v0 v1 v2 v329 v546 v562 cst_145 T x2 l 625 le_rfl
  rw [htr, pay380_apply, e1, e2]
  have := column_split_hi (x := x2) (l := l) (T (ix2 0 l))
  unfold column at this h1 h2
  exact share_one _ _ (by omega) (by omega)

/-- The share of the entries at the smallest side's level is one. -/
theorem share_lo (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (T : FVec Ideal S1x128 .f32) (x2 : Vec Ideal S5000x128 .f32) (l : Fin 128)
    (h1 : column (fun a => a ≤ T (ix2 0 l)) x2 l = 10) (h2 : column (fun a => a < T (ix2 0 l)) x2 l < 10) :
    k0_pay386 (st_k0_t5 Variants.none c none i arg1 harg1 arg2 harg2 arg3 harg3 arg4 harg4 arg5 harg5 arg6 harg6 arg7 harg7 arg8 harg8 arg9 harg9 v0 v1 v2 v329 v546 v562 cst_145 T (harg3.unread x2) (k0_pay382, k0_pay382) (Scf.trips k0_t5_loop.lb k0_t5_loop.ub k0_t5_loop.st)).1
      (st_k0_t5 Variants.none c none i arg1 harg1 arg2 harg2 arg3 harg3 arg4 harg4 arg5 harg5 arg6 harg6 arg7 harg7 arg8 harg8 arg9 harg9 v0 v1 v2 v329 v546 v562 cst_145 T (harg3.unread x2) (k0_pay382, k0_pay382) (Scf.trips k0_t5_loop.lb k0_t5_loop.ub k0_t5_loop.st)).2 (ix2 0 l) = 1 := by
  have htr : Scf.trips k0_t5_loop.lb k0_t5_loop.ub k0_t5_loop.st = 625 := by decide
  obtain ⟨e1, e2⟩ := sweep5 c i arg1 harg1 arg2 harg2 arg3 harg3 arg4 harg4 arg5 harg5 arg6 harg6 arg7 harg7 arg8 harg8 arg9 harg9 v0 v1 v2 v329 v546 v562 cst_145 T x2 l 625 le_rfl
  rw [htr, pay386_apply, e1, e2]
  have := column_split_lo (x := x2) (l := l) (T (ix2 0 l))
  unfold column at this h1 h2
  exact share_one _ _ (by omega) (by omega)

/-- A row has one row. -/
theorem only_row (j : S1x128.Idx) : j = ix2 (0 : Fin 1) (j 1 : Fin 128) := by
  funext a
  match a with
  | ⟨0, _⟩ => exact Fin.ext (by have : (j 0).val < 1 := (j 0).isLt; show (j 0).val = 0; omega)
  | ⟨1, _⟩ => rfl

/-- Rows of ones: the bit that says all shares are one is up. -/
theorem shares_up (a b : FVec Ideal S1x128 .f32) (ha : ∀ l, a (ix2 0 l) = 1) (hb : ∀ l, b (ix2 0 l) = 1) :
    Scalar.cmpi .ne (Scalar.extui (Scalar.andi (Scalar.cmpf (F := Ideal) (φ := .f32) .oge (k0_pay387 a) (FloatOps.ofBits .f32 1065353216#32))
      (Scalar.cmpf (F := Ideal) (φ := .f32) .oge (k0_pay388 b) (FloatOps.ofBits .f32 1065353216#32)))) 0#32 = 1#1 := by
  have h1 : (1 : EReal) ≤ k0_pay387 (F := Ideal) a := by
    unfold k0_pay387; dsimp only
    refine (le_minAll a _ _ _ _ _ _ 1).mpr fun j => ?_
    exact le_of_eq ((ha (j 1)).symm.trans (congrArg a (only_row j).symm))
  have h2 : (1 : EReal) ≤ k0_pay388 (F := Ideal) b := by
    unfold k0_pay388; dsimp only
    refine (le_minAll b _ _ _ _ _ _ 1).mpr fun j => ?_
    exact le_of_eq ((hb (j 1)).symm.trans (congrArg b (only_row j).symm))
  have e : ∀ v : EReal, 1 ≤ v → Scalar.cmpf (F := Ideal) (φ := .f32) .oge v (FloatOps.ofBits .f32 1065353216#32) = 1#1 := fun v hv => by
    show BitVec.ofBool (decide (Ideal.ofBits .f32 0x3F800000#32 ≤ v)) = 1#1
    rw [word_one, decide_eq_true hv]; rfl
  rw [e _ h1, e _ h2]; decide

/-- What is taken off: the sum of the first block's entries where the third's are at or above `W`, and half the second's where they are at or below `V`. -/
def taken (x0 x1 x2 : Vec Ideal S5000x128 .f32) (W V : Fin 128 → EReal) : EReal :=
  (0 - 1) * (∑ s : Fin 8, ∑ l : Fin 128, ∑ k ∈ Finset.range 625, if W l ≤ cell x2 (8 * k + s.val) l then cell x0 (8 * k + s.val) l else 0)
    - ((1 / 2 : ℝ) : EReal) * (∑ s : Fin 8, ∑ l : Fin 128, ∑ k ∈ Finset.range 625, if cell x2 (8 * k + s.val) l ≤ V l then cell x1 (8 * k + s.val) l else 0)

set_option maxHeartbeats 1000000 in
/-- The last sweep takes that off, whatever levels it is given with just ten entries of each column at or beyond them. -/
theorem sweep6_taken (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (v0 v1 v2 v329 v546 v562 cst_145) (x0 x1 x2 : Vec Ideal S5000x128 .f32) (W V : Fin 128 → EReal) (h : Tame x2 W V)
    (thi tlo : Vec Ideal S1x128 .f32) (hhi : ∀ l, column (fun a => thi (ix2 0 l) ≤ a) x2 l = 10) (hlo : ∀ l, column (fun a => a ≤ tlo (ix2 0 l)) x2 l = 10) :
    k0_pay392 (st_k0_t6 Variants.none c none i arg1 harg1 arg2 harg2 arg3 harg3 arg4 harg4 arg5 harg5 arg6 harg6 arg7 harg7 arg8 harg8 arg9 harg9 v0 v1 v2 v329 v546 v562 cst_145 thi tlo (harg1.unread x0) (harg2.unread x1) (harg3.unread x2)
        (k0_pay308, k0_pay308) (Scf.trips k0_t6_loop.lb k0_t6_loop.ub k0_t6_loop.st)).1
      (st_k0_t6 Variants.none c none i arg1 harg1 arg2 harg2 arg3 harg3 arg4 harg4 arg5 harg5 arg6 harg6 arg7 harg7 arg8 harg8 arg9 harg9 v0 v1 v2 v329 v546 v562 cst_145 thi tlo (harg1.unread x0) (harg2.unread x1) (harg3.unread x2)
        (k0_pay308, k0_pay308) (Scf.trips k0_t6_loop.lb k0_t6_loop.ub k0_t6_loop.st)).2 = taken x0 x1 x2 W V := by
  have htr : Scf.trips k0_t6_loop.lb k0_t6_loop.ub k0_t6_loop.st = 625 := by decide
  rw [htr]
  have e : ∀ a b : FVec Ideal S8x128 .f32, k0_pay392 a b = (0 - 1) * (∑ s : Fin 8, ∑ l : Fin 128, a (ix2 s l)) - ((1 / 2 : ℝ) : EReal) * (∑ s : Fin 8, ∑ l : Fin 128, b (ix2 s l)) := by
    intro a b
    rw [← word_half, ← word_one, ← Ideal.ofBits_zero_f32, ← sumAll a reduces_S1x8x128_S1 (.inl rfl) rfl shapeCasts_S8x128_S1x8x128 shapeCasts_S1_S1x1x1 inpos_S1x1x1_p0_0_0,
      ← sumAll b reduces_S1x8x128_S1 (.inl rfl) rfl shapeCasts_S8x128_S1x8x128 shapeCasts_S1_S1x1x1 inpos_S1x1x1_p0_0_0]
    rfl
  rw [e]
  unfold taken
  congr 2
  · refine Finset.sum_congr rfl fun s _ => Finset.sum_congr rfl fun l _ => ?_
    rw [(sweep6 c i arg1 harg1 arg2 harg2 arg3 harg3 arg4 harg4 arg5 harg5 arg6 harg6 arg7 harg7 arg8 harg8 arg9 harg9 v0 v1 v2 v329 v546 v562 cst_145 thi tlo x0 x1 x2 s l 625 le_rfl).1]
    refine Finset.sum_congr rfl fun k hk => if_congr (agree_hi (hhi l) (h.hi l) s k (Finset.mem_range.mp hk)) rfl rfl
  · refine Finset.sum_congr rfl fun s _ => Finset.sum_congr rfl fun l _ => ?_
    rw [(sweep6 c i arg1 harg1 arg2 harg2 arg3 harg3 arg4 harg4 arg5 harg5 arg6 harg6 arg7 harg7 arg8 harg8 arg9 harg9 v0 v1 v2 v329 v546 v562 cst_145 thi tlo x0 x1 x2 s l 625 le_rfl).2]
    refine Finset.sum_congr rfl fun k hk => if_congr (agree_lo (hlo l) (h.lo l) s k (Finset.mem_range.mp hk)) rfl rfl

end Cert.KernelIdeal.Body

end
-- ==== Proof.Value.lean ====
/- One grid point's whole amount, and what the output cell holds after it. -/
module

public import proofs.«01_k».proof.Proof.Levels
public import proofs.«01_k».proof.Proof.Fast

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order

/-- The named natural logarithm of two. -/
def ln2w : EReal := Named.named (F := Ideal) (φ := .f32) κ "ln2" 0x3F317218#32

/-- The sum of `f` down a column, over the blocks of eight rows. -/
def down (f : ℕ → Fin 128 → EReal) (l : Fin 128) : EReal := ∑ s : Fin 8, ∑ b ∈ Finset.range 625, f (8 * b + s.val) l

/-- The part of a grid point's amount with no order in it: the sum of the softplus terms and the weighted divergence of each column. -/
def smooth (x0 x1 x2 : Vec Ideal S5000x128 .f32) : EReal :=
  ln2w * (∑ s : Fin 8, ∑ l : Fin 128, ∑ b ∈ Finset.range 625, (lg (cell x0 (8 * b + s.val) l) + lgh (cell x1 (8 * b + s.val) l)))
    + Ideal.ofBits .f32 0x3E99999A#32 * ∑ l : Fin 128,
      (Ideal.div (down (fun r l => ex (cell x2 r l) * cell x2 r l) l - down (fun r l => ex (cell x2 r l) * cell x0 r l) l) (down (fun r l => ex (cell x2 r l)) l)
        - Ideal.log (down (fun r l => ex (cell x2 r l)) l) * q * ln2w
        + Ideal.log (down (fun r l => ex (cell x0 r l)) l) * q * ln2w)

set_option maxHeartbeats 1000000 in
/-- The body computes that part. -/
theorem smooth_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) : run.sl.v86 c i arg1 harg1 arg2 harg2 arg3 harg3 arg4 harg4 arg5 harg5 arg6 harg6 arg7 harg7 arg8 harg8 arg9 harg9 x0 x1 x2 = smooth x0 x1 x2 := by
  have c10 : run.sl.r_10 arg3 harg3 x2 = rows x2 4992 := by
    unfold run.sl.r_10 k0_pay316; dsimp only; rw [ld_last, shapeCast_self]
  have c11 : run.sl.r_11 arg1 harg1 x0 = rows x0 4992 := by
    unfold run.sl.r_11 k0_pay317; dsimp only; rw [ld_last, shapeCast_self]
  have c12 : run.sl.r_12 arg3 harg3 x2 = fun j => ex (rows x2 4992 j) := by
    unfold run.sl.r_12 k0_pay319 k0_pay316; dsimp only; rw [ld_last, shapeCast_self]; rfl
  have H := fun s l => held c i arg1 harg1 arg2 harg2 arg3 harg3 arg4 harg4 arg5 harg5 arg6 harg6 arg7 harg7 arg8 harg8 arg9 harg9 x0 x1 x2 s l
  have e1 : run.sl.r_24 c i arg1 harg1 arg2 harg2 arg3 harg3 arg4 harg4 arg5 harg5 arg6 harg6 arg7 harg7 arg8 harg8 arg9 harg9 x0 x1 x2 = ln2w * (∑ s : Fin 8, ∑ l : Fin 128, run.sl.r_14 c i arg1 harg1 arg2 harg2 arg3 harg3 arg4 harg4 arg5 harg5 arg6 harg6 arg7 harg7 arg8 harg8 arg9 harg9 x0 x1 x2 (ix2 s l)) :=
    congrArg (ln2w * ·) (sumAll _ _ _ _ _ _ _)
  have e2 : run.sl.r_25 c i arg1 harg1 arg2 harg2 arg3 harg3 arg4 harg4 arg5 harg5 arg6 harg6 arg7 harg7 arg8 harg8 arg9 harg9 x0 x1 x2 = ∑ l : Fin 128, (Ideal.div
      ((∑ s : Fin 8, (run.sl.r c i arg1 harg1 arg2 harg2 arg3 harg3 arg4 harg4 arg5 harg5 arg6 harg6 arg7 harg7 arg8 harg8 arg9 harg9 x0 x1 x2 (ix2 s l) + ex (cell x2 (4992 + s.val) l) * cell x2 (4992 + s.val) l))
        - (∑ s : Fin 8, (run.sl.r_1 c i arg1 harg1 arg2 harg2 arg3 harg3 arg4 harg4 arg5 harg5 arg6 harg6 arg7 harg7 arg8 harg8 arg9 harg9 x0 x1 x2 (ix2 s l) + ex (cell x2 (4992 + s.val) l) * cell x0 (4992 + s.val) l)))
      (∑ s : Fin 8, run.sl.r_15 c i arg1 harg1 arg2 harg2 arg3 harg3 arg4 harg4 arg5 harg5 arg6 harg6 arg7 harg7 arg8 harg8 arg9 harg9 x0 x1 x2 (ix2 s l))
      - Ideal.log (∑ s : Fin 8, run.sl.r_15 c i arg1 harg1 arg2 harg2 arg3 harg3 arg4 harg4 arg5 harg5 arg6 harg6 arg7 harg7 arg8 harg8 arg9 harg9 x0 x1 x2 (ix2 s l)) * q * ln2w
      + Ideal.log (∑ s : Fin 8, run.sl.r_13 c i arg1 harg1 arg2 harg2 arg3 harg3 arg4 harg4 arg5 harg5 arg6 harg6 arg7 harg7 arg8 harg8 arg9 harg9 x0 x1 x2 (ix2 s l)) * q * ln2w) := by
    refine (sumAll1 _ reduces_S1x1x128_S1 (.inl rfl) rfl shapeCasts_S1x128_S1x1x128 shapeCasts_S1_S1x1x1 inpos_S1x1x1_p0_0_0).trans (Finset.sum_congr rfl fun l _ => ?_)
    have a1 := sumDown (run.sl.r_15 c i arg1 harg1 arg2 harg2 arg3 harg3 arg4 harg4 arg5 harg5 arg6 harg6 arg7 harg7 arg8 harg8 arg9 harg9 x0 x1 x2) reduces_S8x128_S128 (.inl rfl) rfl l
    have a2 := sumDown (run.sl.r_13 c i arg1 harg1 arg2 harg2 arg3 harg3 arg4 harg4 arg5 harg5 arg6 harg6 arg7 harg7 arg8 harg8 arg9 harg9 x0 x1 x2) reduces_S8x128_S128 (.inl rfl) rfl l
    have a3 := sumDown (addf (run.sl.r c i arg1 harg1 arg2 harg2 arg3 harg3 arg4 harg4 arg5 harg5 arg6 harg6 arg7 harg7 arg8 harg8 arg9 harg9 x0 x1 x2) (mulf (run.sl.r_12 arg3 harg3 x2) (run.sl.r_10 arg3 harg3 x2))) reduces_S8x128_S128 (.inl rfl) rfl l
    have a4 := sumDown (addf (run.sl.r_1 c i arg1 harg1 arg2 harg2 arg3 harg3 arg4 harg4 arg5 harg5 arg6 harg6 arg7 harg7 arg8 harg8 arg9 harg9 x0 x1 x2) (mulf (run.sl.r_12 arg3 harg3 x2) (run.sl.r_11 arg1 harg1 x0))) reduces_S8x128_S128 (.inl rfl) rfl l
    have b3 : ∀ s : Fin 8, addf (run.sl.r c i arg1 harg1 arg2 harg2 arg3 harg3 arg4 harg4 arg5 harg5 arg6 harg6 arg7 harg7 arg8 harg8 arg9 harg9 x0 x1 x2) (mulf (run.sl.r_12 arg3 harg3 x2) (run.sl.r_10 arg3 harg3 x2)) (ix2 s l)
        = run.sl.r c i arg1 harg1 arg2 harg2 arg3 harg3 arg4 harg4 arg5 harg5 arg6 harg6 arg7 harg7 arg8 harg8 arg9 harg9 x0 x1 x2 (ix2 s l) + ex (cell x2 (4992 + s.val) l) * cell x2 (4992 + s.val) l := fun s => by
      rw [c10, c12]; rfl
    have b4 : ∀ s : Fin 8, addf (run.sl.r_1 c i arg1 harg1 arg2 harg2 arg3 harg3 arg4 harg4 arg5 harg5 arg6 harg6 arg7 harg7 arg8 harg8 arg9 harg9 x0 x1 x2) (mulf (run.sl.r_12 arg3 harg3 x2) (run.sl.r_11 arg1 harg1 x0)) (ix2 s l)
        = run.sl.r_1 c i arg1 harg1 arg2 harg2 arg3 harg3 arg4 harg4 arg5 harg5 arg6 harg6 arg7 harg7 arg8 harg8 arg9 harg9 x0 x1 x2 (ix2 s l) + ex (cell x2 (4992 + s.val) l) * cell x0 (4992 + s.val) l := fun s => by
      rw [c11, c12]; rfl
    simp only [b3] at a3
    simp only [b4] at a4
    rw [← a1, ← a2, ← a3, ← a4]
    rfl
  show run.sl.r_24 c i arg1 harg1 arg2 harg2 arg3 harg3 arg4 harg4 arg5 harg5 arg6 harg6 arg7 harg7 arg8 harg8 arg9 harg9 x0 x1 x2 + Ideal.ofBits .f32 0x3E99999A#32 * run.sl.r_25 c i arg1 harg1 arg2 harg2 arg3 harg3 arg4 harg4 arg5 harg5 arg6 harg6 arg7 harg7 arg8 harg8 arg9 harg9 x0 x1 x2 = _
  rw [e1, e2]
  unfold smooth down
  simp only [fun s l => (H s l).f, fun s l => (H s l).sy, fun s l => (H s l).eyy, fun s l => (H s l).eyu, fun s l => (H s l).su]

/-- The one place of the output. -/
theorem only_place (j : S1x1.Idx) : j = ix2 (0 : Fin 1) (0 : Fin 1) := by
  funext a
  match a with
  | ⟨0, _⟩ => exact Fin.ext (by have : (j 0).val < 1 := (j 0).isLt; show (j 0).val = 0; omega)
  | ⟨1, _⟩ => exact Fin.ext (by have : (j 1).val < 1 := (j 1).isLt; show (j 1).val = 0; omega)

/-- The output cell after a grid point with the amount `tot`, when it held `d` before: the amount at the first point, the sum at later ones. -/
def Kept (i : grid0.Coords) (tot : EReal) (d o : Vec Ideal S1x1 .f32) : Prop :=
  o = fun _ => if k0_cond5 i = 1#1 then tot else d (ix2 0 0) + tot

/-- At every point of the grid just one of the two ways is taken. -/
theorem one_way : ∀ i : grid0.Coords, k0_cond6 i = 1#1 ↔ ¬ k0_cond5 i = 1#1 := by
  intro i
  have h : ∀ a : Fin 4, (Scalar.cmpi .ne (Scalar.extui (Scalar.cmpi .ne (BitVec.ofNat 32 a.val) 0#32) : BitVec 32) 0#32 = 1#1
      ↔ ¬ Scalar.cmpi .ne (Scalar.extui (Scalar.cmpi .eq (BitVec.ofNat 32 a.val) 0#32) : BitVec 32) 0#32 = 1#1) := by decide
  exact h (i 0)

/-- A store over the output cell leaves what it stores. -/
theorem cell_back (v : View sig .tc .smem S1x1 .f32) (f) (p : S1x1.Idx → Elt Ideal .f32) (inb) :
    v.read (Elt Ideal) (v.writes (Elt Ideal) f [⟨Rect.unit ![0, 0] S1x1.size inb, p⟩]) = p := by
  have hz : (![0, 0] : Fin 2 → ℕ) = fun _ => 0 := by funext a; fin_cases a <;> rfl
  exact (View.read_writes_eq_canon v f _ (fun y => ⟨_, List.mem_singleton.mpr rfl, View.mem_set_unit_zero (S := S1x1) hz inb y⟩)).trans (View.canon_unit_zero hz inb p)

/-- The two stores of the body leave the output cell so. -/
theorem kept_cell (i : grid0.Coords) (arg4 : Memref sig .tc .smem S1x1 .f32) (harg4 : arg4.IsWhole) (d : Vec Ideal S1x1 .f32) (a r tot : EReal) (ht : a + r = tot) (inb inb2) (h0) :
    Kept i tot d (View.read (Elt Ideal) arg4.view
      (if hc : k0_cond6 i = 1#1 then
        arg4.view.writes (Elt Ideal)
          (if hc : k0_cond5 i = 1#1 then arg4.view.writes (Elt Ideal) (harg4.unread d) [⟨Rect.unit ![0, 0] S1x1.size inb, fun x => k0_pay1 (F := Ideal) a r⟩] else harg4.unread d)
          [⟨Rect.unit ![0, 0] S1x1.size inb, fun x => k0_pay2 (F := Ideal) a r (View.readAt (Elt Ideal) arg4.view (Rect.unit ![0, 0] S1x1.size inb2).toLoadRect
            (if hc : k0_cond5 i = 1#1 then arg4.view.writes (Elt Ideal) (harg4.unread d) [⟨Rect.unit ![0, 0] S1x1.size inb, fun x => k0_pay1 (F := Ideal) a r⟩] else harg4.unread d) (Shape.Idx.first h0))⟩]
      else if hc : k0_cond5 i = 1#1 then arg4.view.writes (Elt Ideal) (harg4.unread d) [⟨Rect.unit ![0, 0] S1x1.size inb, fun x => k0_pay1 (F := Ideal) a r⟩] else harg4.unread d)) := by
  have hz : (![0, 0] : Fin 2 → ℕ) = fun _ => 0 := by funext a; fin_cases a <;> rfl
  unfold Kept
  by_cases h5 : k0_cond5 i = 1#1
  · have h6 : ¬ k0_cond6 i = 1#1 := fun h => (one_way i).mp h h5
    rw [dif_neg h6, dif_pos h5, cell_back]
    funext j
    rw [if_pos h5]; exact ht
  · have h6 : k0_cond6 i = 1#1 := (one_way i).mpr h5
    rw [dif_pos h6, cell_back]
    funext j
    rw [if_neg h5, dif_neg h5]
    have e : View.readAt (Elt Ideal) arg4.view (Rect.unit ![0, 0] S1x1.size inb2).toLoadRect (harg4.unread d) (Shape.Idx.first h0) = d (ix2 0 0) := by
      rw [View.readAt_eq_ld, harg4.read_unread, View.ld_unit_zero (S := S1x1) hz]
      exact congrArg d (only_place _)
    rw [e, ← ht]; rfl

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (x0 x1 x2 : Vec Ideal S5000x128 .f32) (W V : Fin 128 → EReal) (h : Tame x2 W V)
include h

/-- The deep level for the largest has just ten entries at or above it. -/
theorem deep_ten_hi (l : Fin 128) : column (fun a => run.sl.v1707 c i arg1 harg1 arg2 harg2 arg3 harg3 arg4 harg4 arg5 harg5 arg6 harg6 arg7 harg7 arg8 harg8 arg9 harg9 x2 (ix2 0 l) ≤ a) x2 l = 10 :=
  exact_hi (deep_hi c i arg1 harg1 arg2 harg2 arg3 harg3 arg4 harg4 arg5 harg5 arg6 harg6 arg7 harg7 arg8 harg8 arg9 harg9 x2 l (fun r => h.bot r l) (fun r => h.top r l)).1 (deep_hi c i arg1 harg1 arg2 harg2 arg3 harg3 arg4 harg4 arg5 harg5 arg6 harg6 arg7 harg7 arg8 harg8 arg9 harg9 x2 l (fun r => h.bot r l) (fun r => h.top r l)).2 (h.hi l)

/-- The deep level for the smallest has just ten entries at or below it. -/
theorem deep_ten_lo (l : Fin 128) : column (fun a => a ≤ run.sl.v1707_1 c i arg1 harg1 arg2 harg2 arg3 harg3 arg4 harg4 arg5 harg5 arg6 harg6 arg7 harg7 arg8 harg8 arg9 harg9 x2 (ix2 0 l)) x2 l = 10 :=
  exact_lo (deep_lo c i arg1 harg1 arg2 harg2 arg3 harg3 arg4 harg4 arg5 harg5 arg6 harg6 arg7 harg7 arg8 harg8 arg9 harg9 x2 l (fun r => h.bot r l) (fun r => h.top r l)).1 (deep_lo c i arg1 harg1 arg2 harg2 arg3 harg3 arg4 harg4 arg5 harg5 arg6 harg6 arg7 harg7 arg8 harg8 arg9 harg9 x2 l (fun r => h.bot r l) (fun r => h.top r l)).2 (h.lo l)

end

end Cert.KernelIdeal.Body

end
-- ==== Proof.RunG.lean ====
/- One call of the kernel body, followed through its branches: what is left in the output cell has any property that holds of the last sum whatever way the two levels were
   reached. Stated for any floats. -/
module

public import proofs.«01_k».proof.Proof.IRun
public import Idealize.ShloMosaic.Lib.Pipeline.Value

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

omit [Named F] in
/-- A row stored last over a whole buffer is what is read back. -/
theorem row_read {sp : Space} (v : View sig .tc sp S1x128 .f32) (p : S1x128.Idx → Elt F .f32) (L : List (View.Piece (Elt F) S1x128 .f32)) (inb) :
    v.readCov ((⟨Rect.unit ![0, 0] S1x128.size inb, p⟩ : View.Piece (Elt F) S1x128 .f32) :: L) (Rect.unit ![0, 0] S1x128.size inb).toLoadRect = p := by
  have hz : (![0, 0] : Fin 2 → ℕ) = fun _ => 0 := by funext a; fin_cases a <;> rfl
  rw [View.readCov_eq_canon', View.canon_cons_unit_zero hz]
  exact View.ld_unit_zero hz inb p

omit [FloatOps F] [Named F] in
/-- A row that reads back another has the properties of that one. -/
theorem as_row (P : Vec F S1x128 .f32 → Prop) {a p : Vec F S1x128 .f32} (e : a = p) (h : P p) : P a := e ▸ h

set_option maxHeartbeats 4000000 in
/-- The body at any grid point, on whole buffers, the properties of its parts given. -/
theorem runG (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole)
    (x0 : Vec F S5000x128 .f32) (x1 : Vec F S5000x128 .f32) (x2 : Vec F S5000x128 .f32) (one oneL cutHi cutLo : Vec F S1x128 .f32 → Prop) (rest : F .f32 → Prop) (good : Vec F S1x1 .f32 → Prop)
    (d3 : Vec F S1x1 .f32)
    (hshares : ∀ a b, one a → oneL b → Scalar.cmpi .ne (Scalar.extui (Scalar.andi (Scalar.cmpf (F := F) (φ := .f32) .oge (k0_pay387 a) (FloatOps.ofBits .f32 1065353216#32))
      (Scalar.cmpf (F := F) (φ := .f32) .oge (k0_pay388 b) (FloatOps.ofBits .f32 1065353216#32)))) 0#32 = 1#1)
    (hfill : one (fun _ => FloatOps.ofBits .f32 1065353216#32)) (hfillL : oneL (fun _ => FloatOps.ofBits .f32 1065353216#32))
    (hshare : ∀ v0 v1 v2 v329 v546 v562 cst_145,
      one (k0_pay380 (st_k0_t3 Variants.none c none i arg1 harg1 arg2 harg2 arg3 harg3 arg4 harg4 arg5 harg5 arg6 harg6 arg7 harg7 arg8 harg8 arg9 harg9 v0 v1 v2 v329 v546 v562 cst_145 (run.sl.v1707 c i arg1 harg1 arg2 harg2 arg3 harg3 arg4 harg4 arg5 harg5 arg6 harg6 arg7 harg7 arg8 harg8 arg9 harg9 x2) (harg3.unread x2) (k0_pay376, k0_pay376) (Scf.trips k0_t3_loop.lb k0_t3_loop.ub k0_t3_loop.st)).1
        (st_k0_t3 Variants.none c none i arg1 harg1 arg2 harg2 arg3 harg3 arg4 harg4 arg5 harg5 arg6 harg6 arg7 harg7 arg8 harg8 arg9 harg9 v0 v1 v2 v329 v546 v562 cst_145 (run.sl.v1707 c i arg1 harg1 arg2 harg2 arg3 harg3 arg4 harg4 arg5 harg5 arg6 harg6 arg7 harg7 arg8 harg8 arg9 harg9 x2) (harg3.unread x2) (k0_pay376, k0_pay376) (Scf.trips k0_t3_loop.lb k0_t3_loop.ub k0_t3_loop.st)).2))
    (hshareL : ∀ v0 v1 v2 v329 v546 v562 cst_145,
      oneL (k0_pay386 (st_k0_t5 Variants.none c none i arg1 harg1 arg2 harg2 arg3 harg3 arg4 harg4 arg5 harg5 arg6 harg6 arg7 harg7 arg8 harg8 arg9 harg9 v0 v1 v2 v329 v546 v562 cst_145 (run.sl.v1707_1 c i arg1 harg1 arg2 harg2 arg3 harg3 arg4 harg4 arg5 harg5 arg6 harg6 arg7 harg7 arg8 harg8 arg9 harg9 x2) (harg3.unread x2) (k0_pay382, k0_pay382) (Scf.trips k0_t5_loop.lb k0_t5_loop.ub k0_t5_loop.st)).1
        (st_k0_t5 Variants.none c none i arg1 harg1 arg2 harg2 arg3 harg3 arg4 harg4 arg5 harg5 arg6 harg6 arg7 harg7 arg8 harg8 arg9 harg9 v0 v1 v2 v329 v546 v562 cst_145 (run.sl.v1707_1 c i arg1 harg1 arg2 harg2 arg3 harg3 arg4 harg4 arg5 harg5 arg6 harg6 arg7 harg7 arg8 harg8 arg9 harg9 x2) (harg3.unread x2) (k0_pay382, k0_pay382) (Scf.trips k0_t5_loop.lb k0_t5_loop.ub k0_t5_loop.st)).2))
    (hfast : ¬ Scalar.cmpi .ne (Scalar.extui (Scalar.cmpf (F := F) (φ := .f32) .ogt (run.sl.v329 c i arg1 harg1 arg2 harg2 arg3 harg3 arg4 harg4 arg5 harg5 arg6 harg6 arg7 harg7 arg8 harg8 arg9 harg9 x0 x1 x2) (FloatOps.ofBits .f32 1056964608#32))) 0#32 = 1#1 → cutHi (run.sl.v306 c i arg1 harg1 arg2 harg2 arg3 harg3 arg4 harg4 arg5 harg5 arg6 harg6 arg7 harg7 arg8 harg8 arg9 harg9 x0 x1 x2))
    (hfastL : ¬ Scalar.cmpi .ne (Scalar.extui (Scalar.cmpf (F := F) (φ := .f32) .ogt (k0_pay374 (run.sl.v546 c i arg1 harg1 arg2 harg2 arg3 harg3 arg4 harg4 arg5 harg5 arg6 harg6 arg7 harg7 arg8 harg8 arg9 harg9 x0 x1 x2) (run.sl.v562 c i arg1 harg1 arg2 harg2 arg3 harg3 arg4 harg4 arg5 harg5 arg6 harg6 arg7 harg7 arg8 harg8 arg9 harg9 x0 x1 x2) run.sl.cst_85) (FloatOps.ofBits .f32 1056964608#32))) 0#32 = 1#1 →
      cutLo (run.sl.v549 c i arg1 harg1 arg2 harg2 arg3 harg3 arg4 harg4 arg5 harg5 arg6 harg6 arg7 harg7 arg8 harg8 arg9 harg9 x0 x1 x2))
    (hdeep : cutHi (run.sl.v1707 c i arg1 harg1 arg2 harg2 arg3 harg3 arg4 harg4 arg5 harg5 arg6 harg6 arg7 harg7 arg8 harg8 arg9 harg9 x2)) (hdeepL : cutLo (run.sl.v1707_1 c i arg1 harg1 arg2 harg2 arg3 harg3 arg4 harg4 arg5 harg5 arg6 harg6 arg7 harg7 arg8 harg8 arg9 harg9 x2))
    (hrest : ∀ v0 v1 v2 v329 v546 v562 cst_145 thi tlo, cutHi thi → cutLo tlo →
      rest (k0_pay392 (st_k0_t6 Variants.none c none i arg1 harg1 arg2 harg2 arg3 harg3 arg4 harg4 arg5 harg5 arg6 harg6 arg7 harg7 arg8 harg8 arg9 harg9 v0 v1 v2 v329 v546 v562 cst_145 thi tlo (harg1.unread x0) (harg2.unread x1) (harg3.unread x2)
          (k0_pay308, k0_pay308) (Scf.trips k0_t6_loop.lb k0_t6_loop.ub k0_t6_loop.st)).1
        (st_k0_t6 Variants.none c none i arg1 harg1 arg2 harg2 arg3 harg3 arg4 harg4 arg5 harg5 arg6 harg6 arg7 harg7 arg8 harg8 arg9 harg9 v0 v1 v2 v329 v546 v562 cst_145 thi tlo (harg1.unread x0) (harg2.unread x1) (harg3.unread x2)
          (k0_pay308, k0_pay308) (Scf.trips k0_t6_loop.lb k0_t6_loop.ub k0_t6_loop.st)).2))
    (hgood : ∀ r, rest r → ∀ inb inb2 h0, good (View.read (Elt F) arg4.view
      (if hc : k0_cond6 i = 1#1 then
        arg4.view.writes (Elt F)
          (if hc : k0_cond5 i = 1#1 then arg4.view.writes (Elt F) (harg4.unread d3) [⟨Rect.unit (s := S1x1) ![0, 0] S1x1.size inb, fun x => k0_pay1 (F := F) (run.sl.v86 c i arg1 harg1 arg2 harg2 arg3 harg3 arg4 harg4 arg5 harg5 arg6 harg6 arg7 harg7 arg8 harg8 arg9 harg9 x0 x1 x2) r⟩] else harg4.unread d3)
          [⟨Rect.unit (s := S1x1) ![0, 0] S1x1.size inb, fun x => k0_pay2 (F := F) (run.sl.v86 c i arg1 harg1 arg2 harg2 arg3 harg3 arg4 harg4 arg5 harg5 arg6 harg6 arg7 harg7 arg8 harg8 arg9 harg9 x0 x1 x2) r (View.readAt (Elt F) arg4.view (Rect.unit (s := S1x1) ![0, 0] S1x1.size inb2).toLoadRect
            (if hc : k0_cond5 i = 1#1 then arg4.view.writes (Elt F) (harg4.unread d3) [⟨Rect.unit (s := S1x1) ![0, 0] S1x1.size inb, fun x => k0_pay1 (F := F) (run.sl.v86 c i arg1 harg1 arg2 harg2 arg3 harg3 arg4 harg4 arg5 harg5 arg6 harg6 arg7 harg7 arg8 harg8 arg9 harg9 x0 x1 x2) r⟩] else harg4.unread d3) (Shape.Idx.first h0))⟩]
      else if hc : k0_cond5 i = 1#1 then arg4.view.writes (Elt F) (harg4.unread d3) [⟨Rect.unit (s := S1x1) ![0, 0] S1x1.size inb, fun x => k0_pay1 (F := F) (run.sl.v86 c i arg1 harg1 arg2 harg2 arg3 harg3 arg4 harg4 arg5 harg5 arg6 harg6 arg7 harg7 arg8 harg8 arg9 harg9 x0 x1 x2) r⟩] else harg4.unread d3))) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare d3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, ⌜good (arg4.view.read (Elt F) f)⌝ ∗ (arg4.view.loc (c : Thread nD τ) ↦[arg4.view.set]{fullShare} f)) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part59_eq_skeleton]; unfold k0_part59_skel
  simp only [k0_part5_eq_skeleton, k0_part26_eq_skeleton]; unfold k0_part5_skel k0_part26_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec
  refine push (both (fun hb1 => push ?_) (fun hb1 => ?_))
  on_goal 1 => sl_exec
  all_goals
    refine both (fun hb2 => push ?_) (fun hb2 => ?_)
    all_goals
      sl_exec
      refine both (fun hb3 => push ?_) (fun hb3 => absurd (hshares _ _ ?_ ?_) hb3)
      on_goal 2 =>
        first
        | exact as_row one (row_read _ _ _ _) hfill
        | exact as_row one (row_read _ _ _ _) (hshare _ _ _ _ _ _ _)
      on_goal 2 =>
        first
        | exact as_row oneL (row_read _ _ _ _) hfillL
        | exact as_row oneL (row_read _ _ _ _) (hshareL _ _ _ _ _ _ _)
      sl_exec
      refine both (fun hb4 => absurd hb4 (flip1 _ hb3)) (fun hb4 => ?_)
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; rotate_left; · iexact H3
        · ipureintro
          refine hgood _ (hrest _ _ _ _ _ _ _ _ _ ?_ ?_) _ _ _
          · first
            | exact as_row cutHi (row_read _ _ _ _) (hfast hb1)
            | exact as_row cutHi ((row_read _ _ _ _).trans (shapeCast_self _ _)) hdeep
          · first
            | exact as_row cutLo (row_read _ _ _ _) (hfastL hb2)
            | exact as_row cutLo ((row_read _ _ _ _).trans (shapeCast_self _ _)) hdeepL
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      iexists _, _; isplitr; swap; · iexact H8
      ipureintro; rfl

end Cert.KernelIdeal.Body

end
-- ==== Proof.RunV.lean ====
/- One call of the kernel body with its value: on blocks whose third is tame the output cell ends at the amount of the block, added to what it held at later points. -/
module

public import proofs.«01_k».proof.Proof.Value
public import proofs.«01_k».proof.Proof.RunG

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Order

local notation "𝕄" => MT nD τ sig Unit (Elt Ideal) ℕ (UR sig nD τ) ℕ

set_option maxHeartbeats 4000000 in
/-- The body at any grid point, on whole buffers. -/
theorem runV (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .smem S1x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole)
    (x0 : Vec Ideal S5000x128 .f32) (x1 : Vec Ideal S5000x128 .f32) (x2 : Vec Ideal S5000x128 .f32) (W V : Fin 128 → EReal) (hT : Tame x2 W V) (d3 : Vec Ideal S1x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare d3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, ⌜Kept i (smooth x0 x1 x2 + taken x0 x1 x2 W V) d3 (arg4.view.read (Elt Ideal) f)⌝ ∗ (arg4.view.loc (c : Thread nD τ) ↦[arg4.view.set]{fullShare} f)) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := Ideal)) Variants.none c none) E (cc0__body i arg1 harg1 arg2 harg2 arg3 harg3 arg4 harg4 arg5 harg5 arg6 harg6 arg7 harg7 arg8 harg8 arg9 harg9) K := by
  exact runG (F := Ideal) c i arg1 harg1 arg2 harg2 arg3 harg3 arg4 harg4 arg5 harg5 arg6 harg6 arg7 harg7 arg8 harg8 arg9 harg9 x0 x1 x2
    (fun a => ∀ l, a (ix2 0 l) = (1 : EReal)) (fun a => ∀ l, a (ix2 0 l) = (1 : EReal))
    (fun a => ∀ l, column (fun v => a (ix2 0 l) ≤ v) x2 l = 10) (fun a => ∀ l, column (fun v => v ≤ a (ix2 0 l)) x2 l = 10)
    (fun r => r = taken x0 x1 x2 W V) (fun o => Kept i (smooth x0 x1 x2 + taken x0 x1 x2 W V) d3 o) d3
    shares_up (fun _ => word_one) (fun _ => word_one)
    (fun _ _ _ _ _ _ _ l => share_hi c i arg1 harg1 arg2 harg2 arg3 harg3 arg4 harg4 arg5 harg5 arg6 harg6 arg7 harg7 arg8 harg8 arg9 harg9 _ _ _ _ _ _ _ _ x2 l (deep_ten_hi c i arg1 harg1 arg2 harg2 arg3 harg3 arg4 harg4 arg5 harg5 arg6 harg6 arg7 harg7 arg8 harg8 arg9 harg9 x2 W V hT l) (deep_hi c i arg1 harg1 arg2 harg2 arg3 harg3 arg4 harg4 arg5 harg5 arg6 harg6 arg7 harg7 arg8 harg8 arg9 harg9 x2 l (fun r => hT.bot r l) (fun r => hT.top r l)).2)
    (fun _ _ _ _ _ _ _ l => share_lo c i arg1 harg1 arg2 harg2 arg3 harg3 arg4 harg4 arg5 harg5 arg6 harg6 arg7 harg7 arg8 harg8 arg9 harg9 _ _ _ _ _ _ _ _ x2 l (deep_ten_lo c i arg1 harg1 arg2 harg2 arg3 harg3 arg4 harg4 arg5 harg5 arg6 harg6 arg7 harg7 arg8 harg8 arg9 harg9 x2 W V hT l) (deep_lo c i arg1 harg1 arg2 harg2 arg3 harg3 arg4 harg4 arg5 harg5 arg6 harg6 arg7 harg7 arg8 harg8 arg9 harg9 x2 l (fun r => hT.bot r l) (fun r => hT.top r l)).2)
    (fun h l => fast_hi c i arg1 harg1 arg2 harg2 arg3 harg3 arg4 harg4 arg5 harg5 arg6 harg6 arg7 harg7 arg8 harg8 arg9 harg9 x0 x1 x2 (flag_low _ h) l) (fun h l => fast_lo c i arg1 harg1 arg2 harg2 arg3 harg3 arg4 harg4 arg5 harg5 arg6 harg6 arg7 harg7 arg8 harg8 arg9 harg9 x0 x1 x2 (flag_low _ h) l)
    (deep_ten_hi c i arg1 harg1 arg2 harg2 arg3 harg3 arg4 harg4 arg5 harg5 arg6 harg6 arg7 harg7 arg8 harg8 arg9 harg9 x2 W V hT) (deep_ten_lo c i arg1 harg1 arg2 harg2 arg3 harg3 arg4 harg4 arg5 harg5 arg6 harg6 arg7 harg7 arg8 harg8 arg9 harg9 x2 W V hT)
    (fun _ _ _ _ _ _ _ thi tlo h1 h2 => sweep6_taken c i arg1 harg1 arg2 harg2 arg3 harg3 arg4 harg4 arg5 harg5 arg6 harg6 arg7 harg7 arg8 harg8 arg9 harg9 _ _ _ _ _ _ _ x0 x1 x2 W V hT thi tlo h1 h2)
    (fun r hr inb inb2 h0 => kept_cell i arg4 harg4 d3 _ r _ (congrArg₂ (fun a b : EReal => a + b) (smooth_eq c i arg1 harg1 arg2 harg2 arg3 harg3 arg4 harg4 arg5 harg5 arg6 harg6 arg7 harg7 arg8 harg8 arg9 harg9 x0 x1 x2) hr) inb inb2 h0)
    E K

end Cert.KernelIdeal.Body

end
-- ==== Proof.VLaunch.lean ====
/- The kernel's launch with its value: point by point the output cell holds the running sum of the points' amounts, and the program's result is the last of these over the count of entries. -/
module

public import proofs.«01_k».proof.Proof.RunV
public import Idealize.ShloMosaic.Lib.Pipeline.Value

@[expose] public section

set_option maxRecDepth 65536

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.Order

local notation "𝕄" => MT nD τ sig Unit (Elt Ideal) ℕ (UR sig nD τ) ℕ

variable (m : (ℓ : Loc nD τ sig) → Buf (Elt Ideal) ℓ) (ρ : Dev nD → PrngReg) (W U : Dev nD → Fin cfg0.N → Fin 128 → EReal)

/-- The amount of a grid point. -/
def amount (c : Dev nD) (t : Fin cfg0.N) : EReal :=
  smooth (iblk m c 0 t) (iblk m c 1 t) (iblk m c 2 t) + taken (iblk m c 0 t) (iblk m c 1 t) (iblk m c 2 t) (W c t) (U c t)

/-- The running sum of the amounts, up to a point. -/
def running (c : Dev nD) : (n : ℕ) → n < cfg0.N → EReal
  | 0, h => amount m W U c ⟨0, h⟩
  | n + 1, h => running c n (Nat.lt_of_succ_lt h) + amount m W U c ⟨n + 1, h⟩

/-- What every window holds, point by point: the inputs their blocks, the output the running sum. -/
def sums (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => running m W U c t.val t.isLt
  Φ _ := Pipeline.ΦA spec0 c
  q _ := fullShare
  owed _ := 0

/-- The arrays are those the kernel is launched on. -/
theorem sums_A (c : Dev nD) (w : Fin cfg0.W) : (sums m W U 0 c).A w = V m c (Pipeline.arrRef spec0 w) := by dsimp only [sums]
/-- The body leaves the first input's block in place. -/
theorem sums_after0 (c : Dev nD) (t : Fin cfg0.N) : (sums m W U 0 c).after 0 t = iblk m c 0 t := by dsimp only [sums]
/-- The body leaves the second input's block in place. -/
theorem sums_after1 (c : Dev nD) (t : Fin cfg0.N) : (sums m W U 0 c).after 1 t = iblk m c 1 t := by dsimp only [sums]
/-- The body leaves the third input's block in place. -/
theorem sums_after2 (c : Dev nD) (t : Fin cfg0.N) : (sums m W U 0 c).after 2 t = iblk m c 2 t := by dsimp only [sums]
/-- The body leaves the running sum in the output cell. -/
theorem sums_after3 (c : Dev nD) (t : Fin cfg0.N) : (sums m W U 0 c).after 3 t = fun _ => running m W U c t.val t.isLt := by dsimp only [sums]

/-- Every window is left at what is said of it. -/
theorem sums_leaves (c : Dev nD) (w : Fin cfg0.W) (h : ∀ t : Fin cfg0.N, cfg0.idle w (grid0.coords t) = false) (t : Fin cfg0.N) :
    (sums m W U 0 c).leavesExact w t = owns (c : Thread nD τ) ((cfg0.win w).stage (cfg0.slots t w)) fullShare ((sums m W U 0 c).after w t) := by
  unfold Dat.leavesExact; rw [h t]

/-- The first case of the output's store is the first point. -/
theorem first_point (t : Fin cfg0.N) : k0_cond5 (grid0.coords t) = 1#1 ↔ t.val = 0 := by
  rcases fin_N0 t with rfl | rfl | rfl | rfl <;> decide

/-- The output cell is stored at every point. -/
theorem stored (i : grid0.Coords) : cfg0.idle 3 i = false := by
  have h : ∀ j : Fin 4, cfg0.idle 3 (fun (a : Fin 1) => ⟨j.val, by fin_cases a; exact j.isLt⟩) = false := by decide
  have e : i = fun (a : Fin 1) => ⟨(i 0).val, by fin_cases a; exact (i 0).isLt⟩ := by
    funext a; fin_cases a; rfl
  rw [e]; exact h ⟨(i 0).val, (i 0).isLt⟩

/-- What the cell is left at is the running sum, if it held the sum before. -/
theorem kept_running (c : Dev nD) (t : Fin cfg0.N) (d3) (o : Vec Ideal S1x1 .f32)
    (h : Kept (grid0.coords t) (amount m W U c t) ((sums m W U 0 c).before 3 t d3) o) : o = fun _ => running m W U c t.val t.isLt := by
  unfold Kept at h
  rw [h]
  obtain ⟨n, hn⟩ := t
  match n with
  | 0 => funext _; rw [if_pos ((first_point ⟨0, hn⟩).mpr rfl)]; rfl
  | n + 1 =>
    funext _
    rw [if_neg fun e => Nat.succ_ne_zero n ((first_point ⟨n + 1, hn⟩).mp e)]
    have hf : (cfg0.win 3).flush ⟨n, Nat.lt_of_succ_lt hn⟩ = false := by
      rw [Bool.eq_false_iff]
      intro e
      have := (flush0_3 ⟨n, Nat.lt_of_succ_lt hn⟩).mp e
      have h4 : cfg0.N = 4 := N_0
      dsimp only at this
      omega
    have hb := (sums m W U 0 c).before_out_kept 3 rfl ⟨n + 1, hn⟩ (Nat.succ_ne_zero n) hf stored (fun _ _ => rfl) d3
    rw [hb, sums_after3]
    rfl

variable (hT : ∀ c t, Tame (iblk m c 2 t) (W c t) (U c t))
include hT

set_option maxHeartbeats 800000 in
/-- The body at any point of the grid takes the inputs' blocks and the running sum so far, and leaves the running sum. -/
theorem sums_body (c : Dev nD) (t : Fin cfg0.N) :
    iprop((sums m W U 0 c).Φ t.castSucc ∗ (sums m W U 0 c).owesAt () t.castSucc
        ∗ (∃ d, owns (c : Thread nD τ) (st0_0 t) fullShare ((sums m W U 0 c).before 0 t d))
        ∗ (∃ d, owns (c : Thread nD τ) (st0_1 t) fullShare ((sums m W U 0 c).before 1 t d))
        ∗ (∃ d, owns (c : Thread nD τ) (st0_2 t) fullShare ((sums m W U 0 c).before 2 t d))
        ∗ (∃ d, owns (c : Thread nD τ) (st0_3 t) fullShare ((sums m W U 0 c).before 3 t d)))
      ⊢ wp frame (wpE (defs₀ (F := Ideal)) Variants.none c none) Set.univ (bodyAt0 t) (fun _ =>
        iprop((sums m W U 0 c).Φ t.succ ∗ (sums m W U 0 c).owesAt () t.succ
          ∗ (sums m W U 0 c).leavesExact 0 t ∗ (sums m W U 0 c).leavesExact 1 t ∗ (sums m W U 0 c).leavesExact 2 t
          ∗ (sums m W U 0 c).leavesExact 3 t)) := by
  have b0 := fun d => before0_0_of m (sums m W U 0 c) (sums_A m W U c 0) (sums_after0 m W U c) t d
  have b1 := fun d => before0_1_of m (sums m W U 0 c) (sums_A m W U c 1) (sums_after1 m W U c) t d
  have b2 := fun d => before0_2_of m (sums m W U 0 c) (sums_A m W U c 2) (sums_after2 m W U c) t d
  simp only [b0, b1, b2]
  rw [sums_leaves m W U c 0 (fun _ => rfl) t, sums_leaves m W U c 1 (fun _ => rfl) t, sums_leaves m W U c 2 (fun _ => rfl) t, sums_leaves m W U c 3 (fun _ => stored _) t,
    sums_after0, sums_after1, sums_after2, sums_after3]
  rw [show (sums m W U 0 c).Φ t.succ = Pipeline.ΦA spec0 c from rfl,
    show (sums m W U 0 c).owesAt () t.succ = (sums m W U 0 c).owesAt () t.castSucc from rfl,
    show (sums m W U 0 c).Φ t.castSucc = Pipeline.ΦA spec0 c from rfl,
    show (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) by
      unfold Pipeline.ΦA; rw [scopedRest0_eq]; simp only [owns_whole]; try rfl]
  unfold bodyAt0
  iintro ⟨⟨⟨HS0, HS1, HS2, HS3, HS4⟩, Hg⟩, Ho, ⟨%d0, H0⟩, ⟨%d1, H1⟩, ⟨%d2, H2⟩, ⟨%d3, H3⟩⟩
  iapply (runV c (grid0.coords t) _ _ _ _ _ _ _ _ _ _ _ _ _ _ _ _ _ _ (iblk m c 0 t) (iblk m c 1 t) (iblk m c 2 t) (W c t) (U c t) (hT c t) ((sums m W U 0 c).before 3 t d3) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, ⟨%f, %hf, H3⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  unfold owns
  iexists f
  isplitr
  · ipureintro; exact kept_running m W U c t d3 _ hf
  iexact H3

omit hT in
/-- The body the pipeline calls at a point. -/
theorem called (t : Fin cfg0.N) : defs₀ (F := Ideal) .tc cfg0.body (cfg0.bodyArgs t (cfg0.slots t)) = bodyAt0 t := by
  unfold defs₀; rw [Defs.onTc_tc]

/-- The body does at every point what the pipeline asks of it. -/
theorem sums_obligation (c : Dev nD) : BodyObligation (sums m W U 0 c) (defs₀ (F := Ideal)) Variants.none () Set.univ := fun t => by
  rw [bigSep_W0, bigSep_W0, called t]
  exact triple_restated (sums_body m W U hT c t) rfl .rfl fun _ => .rfl

set_option backward.isDefEq.respectTransparency.types false in
set_option maxHeartbeats 800000 in
/-- The whole program ends, every array at what the pipeline leaves in it and every later buffer at what the host computes of that. -/
theorem sums_run : θ_run defs (onTc (τ := τ) (main (F := Ideal))) (s₀ m ρ) (Pipeline.FramePost cfgs (sums m W U) 0 (Pipeline.afterTail₀ cfgs (sums m W U) 0 (V0 m) [hostOps1])) :=
  Pipeline.θ_run_frame_around cfgs (sums m W U) (0 : Fin 1) launch0 defs₀ Variants.none m ρ main
    (hbody := fun c => (sums_obligation m W U hT c).loose) (hshare := fun c => (sums m W U 0 c).share_full fun _ => rfl)
    (howed := fun _ _ => rfl) (V₀ := V0 m) (opss := [hostOps1]) (hsub := sfx_sub) (hfresh := sfx_fresh) (hkeep := sfx_keeps)
    (hmain := hmain m Variants.none) (hA := sums_A m W U) (hΦ := fun _ _ => rfl)

end Cert.KernelIdeal.Val

end
-- ==== Proof.Outcome.lean ====
/- What the kernel's program leaves: the running sum of all four points over the count of entries, and the arguments as they were. With it what every input block holds of the
   argument it is cut from. -/
module

public import proofs.«01_k».proof.Proof.VLaunch

@[expose] public section

set_option maxRecDepth 65536

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open Idealize.SL.Sem
open Idealize.ShloMosaic.ValueIdx
open Idealize.ShloMosaic.Pipeline (Dat)
open Cert.Order

variable (m : (ℓ : Loc nD τ sig) → Buf (Elt Ideal) ℓ) (ρ : Dev nD → PrngReg) (W U : Dev nD → Fin cfg0.N → Fin 128 → EReal)

/-- The sum of all four amounts. -/
def whole (c : Dev nD) : EReal := running m W U c 3 (by decide)

/-- The one write of the output puts the whole sum there. -/
theorem written (c : Dev nD) (t : Fin cfg0.N) (hf : (cfg0.win 3).flush t = true) :
    (sums m W U 0 c).flushed 3 t = ((cfg0.win 3).blk t).view.read (Elt Ideal) (fun _ => whole m W U c) := by
  have ht := (flush0_3 t).mp hf
  rcases fin_N0 t with rfl | rfl | rfl | rfl
  · exact absurd ht (by decide)
  · exact absurd ht (by decide)
  · exact absurd ht (by decide)
  · show (cfg0.win 3).cut (grid0.coords t0_3) ((sums m W U 0 c).after 3 t0_3) = _
    rw [sums_after3]
    rfl

/-- So that is what the output holds at the end. -/
theorem output (c : Dev nD) : (sums m W U 0 c).arrAt 3 cfg0.N = fun _ => whole m W U c := by
  refine (sums m W U 0 c).arrAt_eq_of_cover 3 _ (written m W U c) fun i => ⟨t0_3, (flush0_3 t0_3).mpr rfl, ?_⟩
  show i ∈ ((View.whole main_v3).slice (win0_3.rect t0_3)).set
  rw [View.set_slice_whole, Rect.mem_set_unit]
  intro a
  have hi : (i a).val < S1x1.size a := (i a).isLt
  have hz : win0_3.index t0_3 a * S1x1.size a = 0 := by fin_cases a <;> decide
  have hs : main_v3.ty.shape.size a = S1x1.size a := rfl
  show win0_3.index t0_3 a * S1x1.size a ≤ (i a).val ∧ (i a).val < win0_3.index t0_3 a * S1x1.size a + S1x1.size a
  omega

/-- What the host makes of it. -/
theorem divided (c : Dev nD) : Pipeline.afterTail₀ cfgs (sums m W U) 0 (V0 m) [hostOps1] c main_v5
    = fun _ => Ideal.div (whole m W U c) (Ideal.ofBits .f32 0x4A1C4000#32) := by
  have h := Pipeline.withArrays_arr spec0 winFacts0.arr_inj c (V0 m c) (fun w => (sums m W U 0 c).arrAt w cfg0.N) 3
  unfold Pipeline.afterTail₀
  simp only [hostOps1, List.flatten_cons, List.flatten_nil, List.append_nil]
  after_results_simp
  have e : Pipeline.withArrays (cfgs 0).spec c (V0 m c) (fun w => (sums m W U 0 c).arrAt w (cfgs 0).N) (Proc.devRef .tc main_v3) = fun _ => whole m W U c := h.trans (output m W U c)
  rw [e]
  rfl

variable (hT : ∀ c t, Tame (iblk m c 2 t) (W c t) (U c t))
include hT

/-- The program's result, and its arguments untouched. -/
theorem outcome : θ_run defs (onTc (τ := τ) (main (F := Ideal))) (s₀ m ρ) fun r => ∀ c : Dev nD,
    r.2.mem ((c.tc : Thread nD τ).loc main_v5) = (fun _ => Ideal.div (whole m W U c) (Ideal.ofBits .f32 0x4A1C4000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (divided m W U c),
      ((h c).2 main_arg0 (Pipeline.mem_restRefs_of main_arg0 (by decide) (by decide))).trans (W_main_arg0 m (sums m W U) c),
      ((h c).2 main_arg1 (Pipeline.mem_restRefs_of main_arg1 (by decide) (by decide))).trans (W_main_arg1 m (sums m W U) c),
      ((h c).2 main_arg2 (Pipeline.mem_restRefs_of main_arg2 (by decide) (by decide))).trans (W_main_arg2 m (sums m W U) c),
      ((h c).2 main_arg3 (Pipeline.mem_restRefs_of main_arg3 (by decide) (by decide))).trans (W_main_arg3 m (sums m W U) c)⟩)
    (sums_run m ρ W U hT)

omit hT

/-- An array's block at a point, for an array that is another one turned: 128 of its rows, turned. -/
theorem block_of {A : FVec Ideal S512x5000 .f32} {V : FVec Ideal S5000x512 .f32} (h : V = transpose S5000x512 [1, 0] A transposes_S512x5000_S5000x512_1_0)
    (t : Fin cfg0.N) (r : Fin 5000) (l : Fin 128) (b : Fin 512) (hb : b.val = 128 * t.val + l.val) (i : S5000x512.Idx)
    (h0 : (i 0).val = r.val) (h1 : (i 1).val = t.val * 128 + 1 * l.val) : V i = A (ix2 b r) := by
  rw [h]
  exact transpose_apply _ _ _ _ _ fun a => by match a with | ⟨0, _⟩ => exact h0.symm | ⟨1, _⟩ => exact (hb.trans (by omega)).trans h1.symm

/-- The first argument, turned, is what the kernel is launched on. -/
theorem turned0 (c : Dev nD) : (V m c main_v0 : FVec Ideal S5000x512 .f32) = transpose S5000x512 [1, 0] (m ((c.tc : Thread nD τ).loc main_arg0)) transposes_S512x5000_S5000x512_1_0 := by
  show StableHlo.after (List.flatten [hostOps0]) (fun b => m (c, b)) (Proc.devRef .tc main_v0) = _
  simp only [hostOps0, List.flatten_cons, List.flatten_nil, List.append_nil]
  after_results

/-- A point's block of the first argument. -/
theorem block0 (c : Dev nD) (t : Fin cfg0.N) (r : Fin 5000) (l : Fin 128) (b : Fin 512) (hb : b.val = 128 * t.val + l.val) :
    iblk m c 0 t (ix2 r l) = m ((c.tc : Thread nD τ).loc main_arg0) (ix2 b r) := by
  unfold iblk
  rw [View.read_apply]
  refine block_of (turned0 m c) t r l b hb _ ?_ ?_
  · show win0_0.index t 0 * 5000 + 1 * r.val = r.val
    rw [show win0_0.index t 0 = 0 from by rcases fin_N0 t with rfl | rfl | rfl | rfl <;> decide +kernel]; omega
  · show win0_0.index t 1 * 128 + 1 * l.val = t.val * 128 + 1 * l.val
    rw [show win0_0.index t 1 = t.val from by rcases fin_N0 t with rfl | rfl | rfl | rfl <;> decide +kernel]

/-- The second argument, turned, is what the kernel is launched on. -/
theorem turned1 (c : Dev nD) : (V m c main_v1 : FVec Ideal S5000x512 .f32) = transpose S5000x512 [1, 0] (m ((c.tc : Thread nD τ).loc main_arg1)) transposes_S512x5000_S5000x512_1_0 := by
  show StableHlo.after (List.flatten [hostOps0]) (fun b => m (c, b)) (Proc.devRef .tc main_v1) = _
  simp only [hostOps0, List.flatten_cons, List.flatten_nil, List.append_nil]
  after_results

/-- A point's block of the second argument. -/
theorem block1 (c : Dev nD) (t : Fin cfg0.N) (r : Fin 5000) (l : Fin 128) (b : Fin 512) (hb : b.val = 128 * t.val + l.val) :
    iblk m c 1 t (ix2 r l) = m ((c.tc : Thread nD τ).loc main_arg1) (ix2 b r) := by
  unfold iblk
  rw [View.read_apply]
  refine block_of (turned1 m c) t r l b hb _ ?_ ?_
  · show win0_1.index t 0 * 5000 + 1 * r.val = r.val
    rw [show win0_1.index t 0 = 0 from by rcases fin_N0 t with rfl | rfl | rfl | rfl <;> decide +kernel]; omega
  · show win0_1.index t 1 * 128 + 1 * l.val = t.val * 128 + 1 * l.val
    rw [show win0_1.index t 1 = t.val from by rcases fin_N0 t with rfl | rfl | rfl | rfl <;> decide +kernel]

/-- The third argument, turned, is what the kernel is launched on. -/
theorem turned2 (c : Dev nD) : (V m c main_v2 : FVec Ideal S5000x512 .f32) = transpose S5000x512 [1, 0] (m ((c.tc : Thread nD τ).loc main_arg2)) transposes_S512x5000_S5000x512_1_0 := by
  show StableHlo.after (List.flatten [hostOps0]) (fun b => m (c, b)) (Proc.devRef .tc main_v2) = _
  simp only [hostOps0, List.flatten_cons, List.flatten_nil, List.append_nil]
  after_results

/-- A point's block of the third argument. -/
theorem block2 (c : Dev nD) (t : Fin cfg0.N) (r : Fin 5000) (l : Fin 128) (b : Fin 512) (hb : b.val = 128 * t.val + l.val) :
    iblk m c 2 t (ix2 r l) = m ((c.tc : Thread nD τ).loc main_arg2) (ix2 b r) := by
  unfold iblk
  rw [View.read_apply]
  refine block_of (turned2 m c) t r l b hb _ ?_ ?_
  · show win0_2.index t 0 * 5000 + 1 * r.val = r.val
    rw [show win0_2.index t 0 = 0 from by rcases fin_N0 t with rfl | rfl | rfl | rfl <;> decide +kernel]; omega
  · show win0_2.index t 1 * 128 + 1 * l.val = t.val * 128 + 1 * l.val
    rw [show win0_2.index t 1 = t.val from by rcases fin_N0 t with rfl | rfl | rfl | rfl <;> decide +kernel]

end Cert.KernelIdeal.Val

end
-- ==== Proof.Plain.lean ====
/- The loss of one row over the reals, and the operations that compute its parts, on real entries. -/
module

public import Idealize.ShloMosaic.Lib.ValueIdx
public import Idealize.ShloMosaic.PureOps.Ideal.Laws
public import Idealize.ShloMosaic.Lib.Tactic

@[expose] public section

noncomputable section

namespace Cert.Plain

open Idealize.ShloMosaic
open scoped BigOperators

/-- The softplus. -/
def soft (v : ℝ) : ℝ := Real.log (1 + Real.exp v)

/-- The weight of the divergence: the number its 32-bit word holds. -/
def weight : ℝ := 10066330 / 33554432

/-- The divergence of the softmax of `y` from that of `u`, not yet divided by the length. -/
def diverge (u y : Fin 5000 → ℝ) : ℝ :=
  ((∑ r, Real.exp (y r) * y r) - ∑ r, Real.exp (y r) * u r) / (∑ r, Real.exp (y r)) - Real.log (∑ r, Real.exp (y r)) + Real.log (∑ r, Real.exp (u r))

/-- The loss of a row with labels `hi` and `lo`, not yet divided by the length. -/
def loss (u d y hi lo : Fin 5000 → ℝ) : ℝ :=
  (∑ r, (soft (u r) - hi r * u r)) + 1 / 2 * (∑ r, (soft (d r) - lo r * d r)) + weight * diverge u y

/-- The weight's word. -/
theorem word_weight : Ideal.ofBits .f32 0x3E99999A#32 = ((weight : ℝ) : EReal) := by
  unfold weight; simp [Ideal.ofBits, Ideal.ieee, -EReal.coe_mul]; norm_num

/-- A finite sum of real numbers is one. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum by residues modulo eight is the sum. -/
theorem fold_rows {M : Type} [AddCommMonoid M] (g : ℕ → M) : ∑ s : Fin 8, ∑ b ∈ Finset.range 625, g (8 * b + s.val) = ∑ r : Fin 5000, g r.val := by
  have e : ∑ r : Fin (625 * 8), g r.val = ∑ r : Fin 5000, g r.val := rfl
  rw [← e, ← Equiv.sum_comp finProdFinEquiv, Fintype.sum_prod_type_right]
  refine Finset.sum_congr rfl fun s _ => ?_
  rw [← Fin.sum_univ_eq_sum_range (fun b => g (8 * b + s.val)) 625]
  refine Finset.sum_congr rfl fun b _ => ?_
  rw [finProdFinEquiv_apply_val, Nat.add_comm]

/-- The logarithm of a positive real. -/
theorem log_pos {r : ℝ} (h : 0 < r) : Ideal.log ((r : ℝ) : EReal) = ((Real.log r : ℝ) : EReal) := by
  show (if r ≤ 0 then ⊥ else ((Real.log r : ℝ) : EReal)) = _
  rw [if_neg (not_le.mpr h)]

/-- A quotient of reals. -/
theorem div_real {x y : ℝ} (h : y ≠ 0) : Ideal.div ((x : ℝ) : EReal) ((y : ℝ) : EReal) = ((x / y : ℝ) : EReal) := by
  rw [Ideal.div_coe h, ← EReal.coe_mul]; congr 1; ring

/-- Two to the power of a number over the logarithm of two. -/
theorem exp2_real (v : ℝ) : Ideal.exp2 (((v : ℝ) : EReal) * (((Real.log 2)⁻¹ : ℝ) : EReal)) = ((Real.exp v : ℝ) : EReal) := by
  rw [← EReal.coe_mul]
  show ((Real.rpow 2 (v * (Real.log 2)⁻¹) : ℝ) : EReal) = _
  congr 1
  have h2 : Real.log 2 ≠ 0 := (Real.log_pos (by norm_num)).ne'
  show (2 : ℝ) ^ (v * (Real.log 2)⁻¹) = _
  rw [Real.rpow_def_of_pos (by norm_num)]
  congr 1; field_simp

/-- The sum of exponentials of a row is positive. -/
theorem mass_pos (y : Fin 5000 → ℝ) : 0 < ∑ r, Real.exp (y r) := Finset.sum_pos (fun r _ => Real.exp_pos _) ⟨0, Finset.mem_univ _⟩

/-- The stable form of the softplus. -/
theorem soft_stable (v : ℝ) : max v 0 + Real.log (1 + Real.exp (-|v|)) = soft v := by
  unfold soft
  rcases le_total v 0 with h | h
  · rw [max_eq_right h, abs_of_nonpos h, neg_neg, zero_add]
  · rw [max_eq_left h, abs_of_nonneg h]
    have e : 1 + Real.exp v = Real.exp v * (1 + Real.exp (-v)) := by
      rw [mul_add, ← Real.exp_add]; simp [add_comm]
    rw [e, Real.log_mul (Real.exp_pos v).ne' (by positivity), Real.log_exp]

/-- The same divergence, summed entry by entry over softmaxes shifted by `M` and `K`. -/
theorem diverge_shifted (u y : Fin 5000 → ℝ) (M K : ℝ) :
    ∑ r, Real.exp (y r - M) / (∑ s, Real.exp (y s - M)) *
      (Real.log (Real.exp (y r - M) / (∑ s, Real.exp (y s - M))) - ((u r - K) - Real.log (∑ s, Real.exp (u s - K)))) = diverge u y := by
  have shift : ∀ (z : Fin 5000 → ℝ) (L : ℝ), ∑ s, Real.exp (z s - L) = (∑ s, Real.exp (z s)) * Real.exp (-L) := fun z L => by
    rw [Finset.sum_mul]; exact Finset.sum_congr rfl fun s _ => by rw [← Real.exp_add]; rfl
  have hS := mass_pos y
  have hU := mass_pos u
  unfold diverge
  rw [shift y M, shift u K]
  set S := ∑ s, Real.exp (y s) with hSdef
  set U := ∑ s, Real.exp (u s) with hUdef
  have e1 : ∀ r, Real.exp (y r - M) / (S * Real.exp (-M)) = Real.exp (y r) / S := fun r => by
    rw [sub_eq_add_neg, Real.exp_add, mul_div_mul_right _ _ (Real.exp_pos _).ne']
  have e2 : Real.log (U * Real.exp (-K)) = Real.log U - K := by
    rw [Real.log_mul hU.ne' (Real.exp_pos _).ne', Real.log_exp]; ring
  have e3 : ∀ r, Real.log (Real.exp (y r) / S) = y r - Real.log S := fun r => by
    rw [Real.log_div (Real.exp_pos _).ne' hS.ne', Real.log_exp]
  simp only [e1, e2, e3]
  have e4 : ∀ r, Real.exp (y r) / S * (y r - Real.log S - (u r - K - (Real.log U - K)))
      = (Real.exp (y r) * y r - Real.exp (y r) * u r) / S + Real.exp (y r) * ((Real.log U - Real.log S) / S) := fun r => by
    field_simp; ring
  simp only [e4]
  rw [Finset.sum_add_distrib, ← Finset.sum_div, Finset.sum_sub_distrib, ← Finset.sum_mul, ← hSdef]
  field_simp; ring

end Cert.Plain

end
-- ==== Proof.Block.lean ====
/- What a grid point adds, on a block of real entries: the sum of its columns' losses. -/
module

public import proofs.«01_k».proof.Proof.Value
public import proofs.«01_k».proof.Proof.Plain

@[expose] public section

set_option maxRecDepth 65536

noncomputable section

namespace Cert.KernelIdeal.Body

open Cert.KernelIdeal.Gen
open Idealize.ShloMosaic Idealize.ShloMosaic.TcCoe Idealize.ShloMosaic.Tactic
open Idealize.ShloMosaic.ValueIdx
open scoped BigOperators
open Cert.Order Cert.Plain

/-- A sum down a column, by rows. -/
theorem rows_sum {M : Type} [AddCommMonoid M] (x : Vec Ideal S5000x128 .f32) (f : EReal → M) (l : Fin 128) :
    ∑ s : Fin 8, ∑ b ∈ Finset.range 625, f (cell x (8 * b + s.val) l) = ∑ r : Fin 5000, f (x (ix2 r l)) := by
  rw [fold_rows (fun n => f (cell x n l))]
  refine Finset.sum_congr rfl fun r _ => congrArg f (congrArg x ?_)
  rw [show (⟨r.val % 5000, Nat.mod_lt _ (by norm_num)⟩ : Fin 5000) = r from Fin.ext (Nat.mod_eq_of_lt r.isLt)]

/-- A sum down a column of two blocks' entries, by rows. -/
theorem rows_sum2 {M : Type} [AddCommMonoid M] (x z : Vec Ideal S5000x128 .f32) (f : EReal → EReal → M) (l : Fin 128) :
    ∑ s : Fin 8, ∑ b ∈ Finset.range 625, f (cell x (8 * b + s.val) l) (cell z (8 * b + s.val) l) = ∑ r : Fin 5000, f (x (ix2 r l)) (z (ix2 r l)) := by
  rw [fold_rows (fun n => f (cell x n l) (cell z n l))]
  refine Finset.sum_congr rfl fun r _ => ?_
  have e : (⟨r.val % 5000, Nat.mod_lt _ (by norm_num)⟩ : Fin 5000) = r := Fin.ext (Nat.mod_eq_of_lt r.isLt)
  unfold cell
  rw [e]

/-- The named constants' values. -/
theorem q_real : q = (((Real.log 2)⁻¹ : ℝ) : EReal) := IdealRules.named_const.ideal_named_scalar _ _ _ _ rfl
/-- The word named log 2 is log 2. -/
theorem ln2w_real : ln2w = ((Real.log 2 : ℝ) : EReal) := IdealRules.named_const.ideal_named_scalar _ _ _ _ rfl

/-- The exponential as the kernel computes it. -/
theorem ex_real (v : ℝ) : ex ((v : ℝ) : EReal) = ((Real.exp v : ℝ) : EReal) := by
  unfold ex; rw [q_real]; exact exp2_real v

/-- The softplus as the kernel computes it, over the logarithm of two. -/
theorem lg_real (v : ℝ) : lg ((v : ℝ) : EReal) = ((soft v * (Real.log 2)⁻¹ : ℝ) : EReal) := by
  unfold lg
  rw [ex_real, q_real, word_one, show (1 : EReal) = ((1 : ℝ) : EReal) by norm_cast, ← EReal.coe_add, log_pos (by positivity), ← EReal.coe_mul]
  rfl

/-- Half the softplus, likewise. -/
theorem lgh_real (v : ℝ) : lgh ((v : ℝ) : EReal) = ((1 / 2 * (soft v * (Real.log 2)⁻¹) : ℝ) : EReal) := by
  unfold lgh; rw [lg_real, word_half, ← EReal.coe_mul]

/-- On real entries a grid point's amount is the sum of its columns' losses. -/
theorem block_real (x0 x1 x2 : Vec Ideal S5000x128 .f32) (W V : Fin 128 → EReal) (u d y : Fin 128 → Fin 5000 → ℝ)
    (h0 : ∀ r l, x0 (ix2 r l) = ((u l r : ℝ) : EReal)) (h1 : ∀ r l, x1 (ix2 r l) = ((d l r : ℝ) : EReal)) (h2 : ∀ r l, x2 (ix2 r l) = ((y l r : ℝ) : EReal)) :
    smooth x0 x1 x2 + taken x0 x1 x2 W V = ((∑ l, loss (u l) (d l) (y l) (fun r => if W l ≤ ((y l r : ℝ) : EReal) then 1 else 0)
      (fun r => if ((y l r : ℝ) : EReal) ≤ V l then 1 else 0) : ℝ) : EReal) := by
  have n2 : Real.log 2 ≠ 0 := (Real.log_pos (by norm_num)).ne'
  -- the softplus sums
  have e1 : (∑ s : Fin 8, ∑ l : Fin 128, ∑ b ∈ Finset.range 625, (lg (cell x0 (8 * b + s.val) l) + lgh (cell x1 (8 * b + s.val) l)))
      = ((∑ l, ∑ r, (soft (u l r) * (Real.log 2)⁻¹ + 1 / 2 * (soft (d l r) * (Real.log 2)⁻¹)) : ℝ) : EReal) := by
    rw [Finset.sum_comm, ← sum_coe]
    refine Finset.sum_congr rfl fun l _ => ?_
    rw [rows_sum2 x0 x1 (fun a b => lg a + lgh b), ← sum_coe]
    refine Finset.sum_congr rfl fun r _ => ?_
    rw [h0, h1, lg_real, lgh_real, ← EReal.coe_add]
  have e2 : ∀ l, down (fun r l => ex (cell x2 r l) * cell x2 r l) l = ((∑ r, Real.exp (y l r) * y l r : ℝ) : EReal) := fun l => by
    refine (rows_sum x2 (fun a => ex a * a) l).trans ?_
    rw [← sum_coe]
    refine Finset.sum_congr rfl fun r _ => ?_
    rw [h2, ex_real, ← EReal.coe_mul]
  have e3 : ∀ l, down (fun r l => ex (cell x2 r l) * cell x0 r l) l = ((∑ r, Real.exp (y l r) * u l r : ℝ) : EReal) := fun l => by
    refine (rows_sum2 x2 x0 (fun a b => ex a * b) l).trans ?_
    rw [← sum_coe]
    refine Finset.sum_congr rfl fun r _ => ?_
    rw [h2, h0, ex_real, ← EReal.coe_mul]
  have e4 : ∀ l, down (fun r l => ex (cell x2 r l)) l = ((∑ r, Real.exp (y l r) : ℝ) : EReal) := fun l => by
    refine (rows_sum x2 ex l).trans ?_
    rw [← sum_coe]
    exact Finset.sum_congr rfl fun r _ => by rw [h2, ex_real]
  have e5 : ∀ l, down (fun r l => ex (cell x0 r l)) l = ((∑ r, Real.exp (u l r) : ℝ) : EReal) := fun l => by
    refine (rows_sum x0 ex l).trans ?_
    rw [← sum_coe]
    exact Finset.sum_congr rfl fun r _ => by rw [h0, ex_real]
  have e6 : (∑ s : Fin 8, ∑ l : Fin 128, ∑ k ∈ Finset.range 625, if W l ≤ cell x2 (8 * k + s.val) l then cell x0 (8 * k + s.val) l else 0)
      = ((∑ l, ∑ r, (if W l ≤ ((y l r : ℝ) : EReal) then 1 else 0) * u l r : ℝ) : EReal) := by
    rw [Finset.sum_comm, ← sum_coe]
    refine Finset.sum_congr rfl fun l _ => ?_
    rw [rows_sum2 x2 x0 (fun a b => if W l ≤ a then b else (0 : EReal)), ← sum_coe]
    refine Finset.sum_congr rfl fun r _ => ?_
    rw [h2, h0]
    split_ifs <;> simp
  have e7 : (∑ s : Fin 8, ∑ l : Fin 128, ∑ k ∈ Finset.range 625, if cell x2 (8 * k + s.val) l ≤ V l then cell x1 (8 * k + s.val) l else 0)
      = ((∑ l, ∑ r, (if ((y l r : ℝ) : EReal) ≤ V l then 1 else 0) * d l r : ℝ) : EReal) := by
    rw [Finset.sum_comm, ← sum_coe]
    refine Finset.sum_congr rfl fun l _ => ?_
    rw [rows_sum2 x2 x1 (fun a b => if a ≤ V l then b else (0 : EReal)), ← sum_coe]
    refine Finset.sum_congr rfl fun r _ => ?_
    rw [h2, h1]
    split_ifs <;> simp
  have e8 : smooth x0 x1 x2 = ((Real.log 2 * (∑ l, ∑ r, (soft (u l r) * (Real.log 2)⁻¹ + 1 / 2 * (soft (d l r) * (Real.log 2)⁻¹)))
      + weight * ∑ l, diverge (u l) (y l) : ℝ) : EReal) := by
    have k : (∑ l : Fin 128, (Ideal.div (down (fun r l => ex (cell x2 r l) * cell x2 r l) l - down (fun r l => ex (cell x2 r l) * cell x0 r l) l) (down (fun r l => ex (cell x2 r l)) l)
        - Ideal.log (down (fun r l => ex (cell x2 r l)) l) * q * ln2w + Ideal.log (down (fun r l => ex (cell x0 r l)) l) * q * ln2w))
        = ((∑ l, diverge (u l) (y l) : ℝ) : EReal) := by
      rw [← sum_coe]
      refine Finset.sum_congr rfl fun l _ => ?_
      rw [e2, e3, e4, e5, log_pos (mass_pos _), log_pos (mass_pos _), q_real, ln2w_real, ← EReal.coe_sub, div_real (mass_pos _).ne']
      simp only [← EReal.coe_mul, ← EReal.coe_sub, ← EReal.coe_add]
      congr 1
      unfold diverge
      rw [mul_assoc, mul_assoc, inv_mul_cancel₀ n2, mul_one, mul_one]
    unfold smooth
    rw [e1, k, ln2w_real, word_weight, EReal.coe_add, EReal.coe_mul, EReal.coe_mul]
  have e9 : taken x0 x1 x2 W V = ((-(∑ l, ∑ r, (if W l ≤ ((y l r : ℝ) : EReal) then 1 else 0) * u l r)
      - 1 / 2 * ∑ l, ∑ r, (if ((y l r : ℝ) : EReal) ≤ V l then 1 else 0) * d l r : ℝ) : EReal) := by
    unfold taken
    rw [e6, e7, show (0 - 1 : EReal) = ((-1 : ℝ) : EReal) by norm_num, ← EReal.coe_mul, ← EReal.coe_mul, ← EReal.coe_sub]
    congr 1; ring
  rw [e8, e9, ← EReal.coe_add]
  congr 1
  unfold loss
  simp only [Finset.sum_add_distrib, Finset.sum_sub_distrib, ← Finset.mul_sum, ← Finset.sum_mul]
  field_simp
  ring

/-- The entries of a column that satisfy `p`, counted by rows. -/
theorem column_card (p : EReal → Prop) [DecidablePred p] (x : Vec Ideal S5000x128 .f32) (l : Fin 128) :
    column p x l = (Finset.univ.filter fun r : Fin 5000 => p (x (ix2 r l))).card := by
  rw [Finset.card_filter]
  exact rows_sum (M := ℕ) x (fun a => one (p a)) l

end Cert.KernelIdeal.Body

end
-- ==== Proof.Sort.lean ====
/- The order of a row: which entries the ten largest are, and what the stable sort of the row says of them. -/
module

public import Idealize.ShloMosaic.Lib.ValueIdx
public import Idealize.ShloMosaic.Lib.SortFacts
public import Idealize.ShloMosaic.PureOps.Ideal.Laws
public import Idealize.ShloMosaic.Lib.Tactic

@[expose] public section

noncomputable section

namespace Cert.Plain

open Idealize.ShloMosaic Idealize.ShloMosaic.ValueIdx
open scoped BigOperators

/-- A position below ten, among five thousand. -/
def wide (j : Fin 10) : Fin 5000 := ⟨j.val, by have := j.isLt; omega⟩

section
variable (key : Fin 5000 → EReal) (σ : Fin 5000 → Fin 5000) (hb : Function.Bijective σ) (ha : ∀ i j, i < j → key (σ j) ≤ key (σ i))
  (gap : key (σ 10) < key (σ 9))
include hb ha gap

/-- In a falling order with a gap after the tenth, the entries at or above the tenth are the first ten. -/
theorem first_ten (r : Fin 5000) : key (σ 9) ≤ key r ↔ ∃ j : Fin 10, σ (wide j) = r := by
  constructor
  · intro h
    obtain ⟨j, rfl⟩ := hb.2 r
    by_cases hj : j.val < 10
    · exact ⟨⟨j.val, hj⟩, rfl⟩
    · exfalso
      have h10 : key (σ j) ≤ key (σ 10) := by
        rcases eq_or_lt_of_le (show (10 : Fin 5000) ≤ j from not_lt.mp fun h => hj h) with e | e
        · rw [e]
        · exact ha _ _ e
      exact absurd (lt_of_le_of_lt h10 gap) (not_lt.mpr h)
  · rintro ⟨j, rfl⟩
    rcases eq_or_lt_of_le (show wide j ≤ (9 : Fin 5000) from by show j.val ≤ 9; have := j.isLt; omega) with e | e
    · rw [e]
    · exact ha _ _ e

/-- There are ten of them. -/
theorem count_ten : (Finset.univ.filter fun r => key (σ 9) ≤ key r).card = 10 := by
  have e : (Finset.univ.filter fun r => key (σ 9) ≤ key r) = Finset.univ.image fun j : Fin 10 => σ (wide j) := by
    ext r
    simp only [Finset.mem_filter, Finset.mem_univ, true_and, Finset.mem_image]
    exact first_ten key σ hb ha gap r
  rw [e, Finset.card_image_of_injective _ fun a b h => Fin.ext (congrArg Fin.val (hb.1 h) : (wide a).val = (wide b).val)]
  simp

/-- The sum of ten places' indicators says whether an entry is one of them. -/
theorem label_sum (r : Fin 5000) : ∑ j : Fin 10, (if σ (wide j) = r then (1 : EReal) else 0) = if key (σ 9) ≤ key r then 1 else 0 := by
  by_cases h : key (σ 9) ≤ key r
  · rw [if_pos h]
    obtain ⟨j, hj⟩ := (first_ten key σ hb ha gap r).mp h
    rw [Finset.sum_eq_single j, if_pos hj]
    · intro k _ hk
      rw [if_neg fun e => hk (Fin.ext (congrArg Fin.val (hb.1 (e.trans hj.symm)) : (wide k).val = (wide j).val))]
    · intro hn; exact absurd (Finset.mem_univ _) hn
  · rw [if_neg h]
    refine Finset.sum_eq_zero fun j _ => ?_
    rw [if_neg fun e => h ((first_ten key σ hb ha gap r).mpr ⟨j, e⟩)]

end

variable {m n : ℕ} (X : (⟨2, ![m, n]⟩ : Shape).Idx → EReal)

/-- Where the stable sort takes the entry it puts at a place from, in row `b`. -/
def place (b : Fin m) : Fin n → Fin n :=
  sortedFrom fun k k' => FloatOps.cmpfTotal (F := Ideal) (φ := .f32) .gt (X (ix2 b k)) (X (ix2 b k')) == 1#1

/-- It is a bijection. -/
theorem place_bijective (b : Fin m) : Function.Bijective (place X b) := ⟨sortedFrom_injective _, sortedFrom_surjective _⟩

/-- It puts the entries in falling order. -/
theorem place_falls (b : Fin m) (i j : Fin n) (h : i < j) : X (ix2 b (place X b j)) ≤ X (ix2 b (place X b i)) := by
  have e : ∀ k k' : Fin n, (FloatOps.cmpfTotal (F := Ideal) (φ := .f32) .gt (X (ix2 b k)) (X (ix2 b k')) == 1#1) = decide (X (ix2 b k') < X (ix2 b k)) := fun k k' => by
    show (BitVec.ofBool (decide (X (ix2 b k') < X (ix2 b k))) == 1#1) = _
    by_cases hk : X (ix2 b k') < X (ix2 b k)
    · rw [decide_eq_true hk]; rfl
    · rw [decide_eq_false hk]; rfl
  have := sortedFrom_noInversion (fun k k' => FloatOps.cmpfTotal (F := Ideal) (φ := .f32) .gt (X (ix2 b k)) (X (ix2 b k')) == 1#1) (fun k k' => FloatOps.cmpfTotal (F := Ideal) (φ := .f32) .gt (X (ix2 b k)) (X (ix2 b k')) == 1#1)
    (fun k k' hk => by rw [e] at hk ⊢; exact decide_eq_false (not_lt.mpr (of_decide_eq_true hk).le)) (fun _ _ h => h)
    (fun k k' k'' h1 h2 => by
      rw [e] at h1 h2 ⊢
      exact decide_eq_false (not_lt.mpr (by first | exact (not_lt.mp (of_decide_eq_false h1)).trans (not_lt.mp (of_decide_eq_false h2)) | exact (not_lt.mp (of_decide_eq_false h2)).trans (not_lt.mp (of_decide_eq_false h1))))) i j h
  rw [e] at this
  exact not_lt.mp (of_decide_eq_false this)

/-- Moving along a row. -/
theorem along_row (b : Fin m) (k k' : Fin n) : (ix2 b k : (⟨2, ![m, n]⟩ : Shape).Idx).along ⟨1, Nat.one_lt_two⟩ k' = ix2 b k' := by
  funext a
  match a with
  | ⟨0, _⟩ => rfl
  | ⟨1, _⟩ => rfl

/-- The rows' sort with the positions carried along: the value at a place. -/
theorem sorted_value (b : Fin m) (j : Fin n) (y : (⟨2, ![m, n]⟩ : Shape).Idx → BitVec 32) :
    (Host.sort2 (⟨2, ![m, n]⟩ : Shape) 1 (fun l r : EReal × BitVec 32 => FloatOps.cmpfTotal (F := Ideal) (φ := .f32) .gt l.1 r.1) X y).1 (ix2 b j) = X (ix2 b (place X b j)) := by
  unfold Host.sort2
  rw [dif_pos (show 1 < (⟨2, ![m, n]⟩ : Shape).rank from Nat.one_lt_two)]
  refine congrArg X ((along_row b j _).trans (congrArg (ix2 b) ?_))
  unfold place
  refine congrArg (fun f : Fin n → Fin n → Bool => sortedFrom f j) (funext fun k => funext fun k' => ?_)
  exact congrArg₂ (fun u v => FloatOps.cmpfTotal (F := Ideal) (φ := .f32) .gt (X u) (X v) == 1#1) (along_row b j k) (along_row b j k')

/-- The rows' sort with the positions carried along: the position carried to a place. -/
theorem sorted_index (b : Fin m) (j : Fin n) (y : (⟨2, ![m, n]⟩ : Shape).Idx → BitVec 32) :
    (Host.sort2 (⟨2, ![m, n]⟩ : Shape) 1 (fun l r : EReal × BitVec 32 => FloatOps.cmpfTotal (F := Ideal) (φ := .f32) .gt l.1 r.1) X y).2 (ix2 b j) = y (ix2 b (place X b j)) := by
  unfold Host.sort2
  rw [dif_pos (show 1 < (⟨2, ![m, n]⟩ : Shape).rank from Nat.one_lt_two)]
  refine congrArg y ((along_row b j _).trans (congrArg (ix2 b) ?_))
  unfold place
  refine congrArg (fun f : Fin n → Fin n → Bool => sortedFrom f j) (funext fun k => funext fun k' => ?_)
  exact congrArg₂ (fun u v => FloatOps.cmpfTotal (F := Ideal) (φ := .f32) .gt (X u) (X v) == 1#1) (along_row b j k) (along_row b j k')

/-- Cutting the first columns keeps the entry. -/
theorem cut_front {α : Type} {k : ℕ} (v : (⟨2, ![m, n]⟩ : Shape).Idx → α) (h : (⟨2, ![m, n]⟩ : Shape).Slices (fun _ => 0) ⟨2, ![m, k]⟩) (b : Fin m) (j : Fin k)
    (hj : j.val < n) : extractStridedSlice (⟨2, ![m, k]⟩ : Shape) (fun _ => 0) v h (ix2 b j) = v (ix2 b ⟨j.val, hj⟩) := by
  unfold extractStridedSlice
  congr 1
  funext a
  match a with
  | ⟨0, _⟩ => exact Fin.ext (by show 0 + b.val = b.val; omega)
  | ⟨1, _⟩ => exact Fin.ext (by show 0 + j.val = j.val; omega)

/-- A top-k's values are the row's entries at those places. -/
theorem top_value {k : ℕ} (h) (b : Fin m) (j : Fin k) (hj : j.val < n) :
    (Host.topK (⟨2, ![m, k]⟩ : Shape) 1 (FloatOps.cmpfTotal (F := Ideal) (φ := .f32) .gt) X h).1 (ix2 b j) = X (ix2 b (place X b ⟨j.val, hj⟩)) := by
  unfold Host.topK
  dsimp only
  rw [cut_front _ h b j hj, sorted_value]

/-- A top-k's indices are those places. -/
theorem top_index {k : ℕ} (h) (b : Fin m) (j : Fin k) (hj : j.val < n) :
    (Host.topK (⟨2, ![m, k]⟩ : Shape) 1 (FloatOps.cmpfTotal (F := Ideal) (φ := .f32) .gt) X h).2 (ix2 b j) = BitVec.ofNat 32 (place X b ⟨j.val, hj⟩).val := by
  unfold Host.topK
  dsimp only
  rw [cut_front _ h b j hj, sorted_index, dif_pos (show 1 < (⟨2, ![m, n]⟩ : Shape).rank from Nat.one_lt_two)]
  rfl

end Cert.Plain

end
-- ==== Proof.Equation.lean ====
/- The kernel's whole sum on real arrays: the sum of all rows' losses, their labels the ten largest and the ten smallest of the third array's row. -/
module

public import proofs.«01_k».proof.Proof.Outcome
public import proofs.«01_k».proof.Proof.Block
public import proofs.«01_k».proof.Proof.Sort

@[expose] public section

set_option maxRecDepth 65536

noncomputable section

namespace Cert.KernelIdeal.Val

open Cert.KernelIdeal Cert.KernelIdeal.Gen Cert.KernelIdeal.Body
open Idealize.ShloMosaic Idealize.ShloMosaic.TcCoe
open Idealize.ShloMosaic.ValueIdx
open Cert.Plain
open scoped BigOperators

/-- The row of the arguments at a lane of a point's block. -/
def rowAt (t : Fin cfg0.N) (l : Fin 128) : Fin 512 :=
  ⟨128 * t.val + l.val, by have := t.isLt; have h4 : cfg0.N = 4 := N_0; have := l.isLt; omega⟩

variable (m : (ℓ : Loc nD τ sig) → Buf (Elt Ideal) ℓ) (c : Dev nD)

/-- The first argument. -/
abbrev ups : FVec Ideal S512x5000 .f32 := m ((c.tc : Thread nD τ).loc main_arg0)
/-- The second argument. -/
abbrev downs : FVec Ideal S512x5000 .f32 := m ((c.tc : Thread nD τ).loc main_arg1)
/-- The third argument. -/
abbrev ys : FVec Ideal S512x5000 .f32 := m ((c.tc : Thread nD τ).loc main_arg2)

/-- The tenth largest entry of a row. -/
def tenthUp (b : Fin 512) : EReal := ys m c (ix2 b (place (ys m c) b 9))
/-- The tenth smallest entry of a row, as the tenth largest of the negated row. -/
def tenthDown (b : Fin 512) : EReal := (Host.negf (ys m c) : FVec Ideal S512x5000 .f32) (ix2 b (place (Host.negf (ys m c)) b 9))

/-- The levels of the columns of every point's block. -/
def upper (c : Dev nD) (t : Fin cfg0.N) (l : Fin 128) : EReal := tenthUp m c (rowAt t l)
/-- The lower levels of the columns of every point's block. -/
def lower (c : Dev nD) (t : Fin cfg0.N) (l : Fin 128) : EReal := -tenthDown m c (rowAt t l)

variable (u d y : Fin 512 → Fin 5000 → ℝ)

/-- A row's loss, its labels cut at the tenth entries. -/
def rowLoss (b : Fin 512) : ℝ :=
  loss (u b) (d b) (y b) (fun r => if tenthUp m c b ≤ ys m c (ix2 b r) then 1 else 0)
    (fun r => if tenthDown m c b ≤ (Host.negf (ys m c) : FVec Ideal S512x5000 .f32) (ix2 b r) then 1 else 0)

/-- The block's column read at a row. -/
theorem column2 (t : Fin cfg0.N) (l : Fin 128) (r : Fin 5000) : iblk m c 2 t (ix2 r l) = ys m c (ix2 (rowAt t l) r) := block2 m c t r l (rowAt t l) rfl

section
variable (h2 : ∀ b r, ys m c (ix2 b r) = ((y b r : ℝ) : EReal))
  (g : ∀ b, ys m c (ix2 b (place (ys m c) b 10)) < ys m c (ix2 b (place (ys m c) b 9)))
  (g' : ∀ b, (Host.negf (ys m c) : FVec Ideal S512x5000 .f32) (ix2 b (place (Host.negf (ys m c)) b 10)) < (Host.negf (ys m c) : FVec Ideal S512x5000 .f32) (ix2 b (place (Host.negf (ys m c)) b 9)))
include h2 g g'

/-- Every point's block is tame at those levels. -/
theorem tame_block (t : Fin cfg0.N) : Tame (iblk m c 2 t) (upper m c t) (lower m c t) where
  bot r l := lt_of_lt_of_eq (EReal.bot_lt_coe _) ((column2 m c t l _).trans (h2 _ _)).symm
  top r l := lt_of_eq_of_lt ((column2 m c t l _).trans (h2 _ _)) (EReal.coe_lt_top _)
  hi l := by
    rw [column_card]
    have := count_ten (fun k => ys m c (ix2 (rowAt t l) k)) (place (ys m c) (rowAt t l)) (place_bijective _ _) (place_falls _ _) (g _)
    simp only [column2]
    exact this
  lo l := by
    rw [column_card]
    have := count_ten (fun k => (Host.negf (ys m c) : FVec Ideal S512x5000 .f32) (ix2 (rowAt t l) k)) (place (Host.negf (ys m c)) (rowAt t l)) (place_bijective _ _) (place_falls _ _) (g' _)
    simp only [column2]
    refine Eq.trans (congrArg Finset.card (Finset.filter_congr fun r _ => ?_)) this
    show ys m c (ix2 (rowAt t l) r) ≤ -tenthDown m c (rowAt t l) ↔ tenthDown m c (rowAt t l) ≤ -(ys m c (ix2 (rowAt t l) r))
    exact EReal.le_neg

variable (h0 : ∀ b r, ups m c (ix2 b r) = ((u b r : ℝ) : EReal)) (h1 : ∀ b r, downs m c (ix2 b r) = ((d b r : ℝ) : EReal))
include h0 h1

/-- A point's amount is the sum of its rows' losses. -/
theorem amount_real (t : Fin cfg0.N) : amount m (upper m) (lower m) c t = ((∑ l, rowLoss m c u d y (rowAt t l) : ℝ) : EReal) := by
  unfold amount
  rw [block_real _ _ _ _ _ (fun l => u (rowAt t l)) (fun l => d (rowAt t l)) (fun l => y (rowAt t l))
    (fun r l => (block0 m c t r l (rowAt t l) rfl).trans (h0 _ _)) (fun r l => (block1 m c t r l (rowAt t l) rfl).trans (h1 _ _))
    (fun r l => (column2 m c t l r).trans (h2 _ _))]
  refine congrArg _ (Finset.sum_congr rfl fun l _ => ?_)
  unfold rowLoss
  refine congrArg₂ (loss _ _ _) (funext fun r => ?_) (funext fun r => ?_)
  · rw [h2]; rfl
  · refine if_congr ?_ rfl rfl
    rw [← h2]
    exact EReal.le_neg

/-- The whole sum is the sum of all rows' losses. -/
theorem whole_real : whole m (upper m) (lower m) c = ((∑ b, rowLoss m c u d y b : ℝ) : EReal) := by
  have h4 : cfg0.N = 4 := N_0
  have e : whole m (upper m) (lower m) c = ((amount m (upper m) (lower m) c t0_0 + amount m (upper m) (lower m) c t0_1) + amount m (upper m) (lower m) c t0_2) + amount m (upper m) (lower m) c t0_3 := rfl
  rw [e, amount_real m c u d y h2 g g' h0 h1, amount_real m c u d y h2 g g' h0 h1, amount_real m c u d y h2 g g' h0 h1, amount_real m c u d y h2 g g' h0 h1,
    ← EReal.coe_add, ← EReal.coe_add, ← EReal.coe_add]
  congr 1
  have hs : ∑ b, rowLoss m c u d y b = ∑ t : Fin 4, ∑ l : Fin 128, rowLoss m c u d y (finProdFinEquiv (t, l)) := by
    rw [← Fintype.sum_prod_type' fun (t : Fin 4) (l : Fin 128) => rowLoss m c u d y (finProdFinEquiv (t, l))]
    exact (Equiv.sum_comp (finProdFinEquiv (m := 4) (n := 128)) fun b => rowLoss m c u d y b).symm
  rw [hs, Fin.sum_univ_four]
  have hr : ∀ (t : Fin 4) (s : Fin cfg0.N), s.val = t.val → ∑ l, rowLoss m c u d y (rowAt s l) = ∑ l : Fin 128, rowLoss m c u d y (finProdFinEquiv (t, l)) := fun t s h =>
    Finset.sum_congr rfl fun l _ => congrArg _ (Fin.ext (by show 128 * s.val + l.val = l.val + 128 * t.val; omega))
  rw [hr 0 t0_0 rfl, hr 1 t0_1 rfl, hr 2 t0_2 rfl, hr 3 t0_3 rfl]

end

end Cert.KernelIdeal.Val

end
-- ==== Proof.RefRows.lean ====
/- The reference's operations row by row, on real entries. -/
module

public import proofs.«01_k».proof.Proof.Gen.ReferenceIdeal
public import proofs.«01_k».proof.Proof.Sort
public import proofs.«01_k».proof.Proof.Plain
public import Idealize.ShloMosaic.Lib.ValueLayout
public import Idealize.ShloMosaic.Lib.KernelVsHost
public import Idealize.ShloMosaic.Lib.IdealHost

@[expose] public section

set_option maxRecDepth 8192

noncomputable section

namespace Cert.ReferenceIdeal.Rows

open Cert.ReferenceIdeal Cert.ReferenceIdeal.Gen Idealize.ShloMosaic Idealize.ShloMosaic.ValueIdx Cert.Plain
open scoped BigOperators

/-- An array of rows. -/
abbrev Arr := FVec Ideal S512x5000 .f32

/-- One number per row. -/
abbrev Col := FVec Ideal S512 .f32

/-- The word for zero. -/
theorem word_zero : Ideal.ofBits .f32 0x00000000#32 = 0 := by simp [Ideal.ofBits, Ideal.ieee]
/-- The word for minus infinity. -/
theorem word_bottom : Ideal.ofBits .f32 0xFF800000#32 = ⊥ := by simp [Ideal.ofBits, Ideal.ieee]

/-- One number, at every row. -/
def every (w : BitVec 32) : Col := broadcastInDim S512 ![] bcast_S_S512 (constant S_ .f32 w)

/-- Reading it gives the number. -/
theorem every_at (w : BitVec 32) (j) : every w j = Ideal.ofBits .f32 w := rfl

/-- A row's sum, for every row. -/
def total (X : Arr) : Col := Host.reduceAdd X (constant S_ .f32 0x00000000#32) reducesTo_S512x5000_S512_d1 h_S_

/-- A row's sum is the sum over the row. -/
theorem total_at (X : Arr) (b : Fin 512) : total X (ix1 b) = ∑ r : Fin 5000, X (ix2 b r) := by
  have hr : S512x5000.Reduces [1] S512 := by decide
  show Ideal.hostReduceAdd reducesTo_S512x5000_S512_d1 X (Ideal.ofBits .f32 0x00000000#32) (ix1 b) = _
  rw [Ideal.hostReduceAdd_single _ hr, word_zero, zero_add]
  refine Finset.sum_congr rfl fun k _ => congrArg X (funext fun a => ?_)
  match a with | ⟨0, _⟩ => rfl | ⟨1, _⟩ => rfl

/-- On real entries it is a real sum. -/
theorem total_real (X : Arr) (b : Fin 512) (f : Fin 5000 → ℝ) (h : ∀ r, X (ix2 b r) = ((f r : ℝ) : EReal)) : total X (ix1 b) = ((∑ r, f r : ℝ) : EReal) := by
  rw [total_at, ← sum_coe]
  exact Finset.sum_congr rfl fun r _ => h r

/-- One number per row, at every entry of the row. -/
def along (v : Col) : Arr := broadcastInDim S512x5000 ![0, 1] bcast_S512x1_S512x5000_0_1 (broadcastInDim S512x1 ![0] bcast_S512_S512x1_0 v)

/-- A number per row as a column of one entry. -/
theorem upright (v : Col) (b : Fin 512) : broadcastInDim S512x1 ![0] bcast_S512_S512x1_0 v (ix2 b (0 : Fin 1)) = v (ix1 b) := by
  refine broadcastInDim_apply _ _ v _ (ix1 b) fun a => ?_
  match a with
  | ⟨0, _⟩ => rfl

/-- A column of one entry, spread along the rows. -/
theorem spread (w : FVec Ideal S512x1 .f32) (b : Fin 512) (r : Fin 5000) : broadcastInDim S512x5000 ![0, 1] bcast_S512x1_S512x5000_0_1 w (ix2 b r) = w (ix2 b (0 : Fin 1)) := by
  refine broadcastInDim_apply _ _ w _ _ fun a => ?_
  match a with
  | ⟨0, _⟩ => rfl
  | ⟨1, _⟩ => rfl

/-- Reading it gives the row's number. -/
theorem along_at (v : Col) (b : Fin 512) (r : Fin 5000) : along v (ix2 b r) = v (ix1 b) := (spread _ b r).trans (upright v b)

/-- The largest of some real numbers is a real number. -/
theorem fold_real {n : ℕ} (f : Fin n → ℝ) (i : Fin n) : ∃ M : ℝ, Finset.fold max (⊥ : EReal) (fun r : Fin n => ((f r : ℝ) : EReal)) Finset.univ = ((M : ℝ) : EReal) := by
  refine ⟨EReal.toReal _, (EReal.coe_toReal ?_ ?_).symm⟩
  · exact ((Finset.fold_max_lt _).mpr ⟨bot_lt_top, fun r _ => EReal.coe_lt_top _⟩).ne
  · exact ((Finset.lt_fold_max _).mpr (.inr ⟨i, Finset.mem_univ _, EReal.bot_lt_coe _⟩)).ne'

/-- The largest entry of each row. -/
def peak (A : Arr) : Col := maximumf (every 0xFF800000#32) (Host.reduce FloatOps.maximumf A (constant S_ .f32 0xFF800000#32) reducesTo_S512x5000_S512_d1 h_S_)

/-- On real entries the largest entry is a real number. -/
theorem peak_real (A : Arr) (b : Fin 512) (f : Fin 5000 → ℝ) (h : ∀ r, A (ix2 b r) = ((f r : ℝ) : EReal)) : ∃ M : ℝ, peak A (ix1 b) = ((M : ℝ) : EReal) := by
  have hr : S512x5000.Reduces [1] S512 := by decide
  have e : peak A (ix1 b) = Finset.fold max ⊥ (fun r : Fin 5000 => ((f r : ℝ) : EReal)) Finset.univ := by
    unfold peak
    show max (Ideal.ofBits .f32 0xFF800000#32) (Host.reduce FloatOps.maximumf A (constant S_ .f32 0xFF800000#32) reducesTo_S512x5000_S512_d1 h_S_ (ix1 b)) = _
    have e2 := (congrFun (hostReduce_maximumf_eq_multiReduction A (0xFF800000#32 : BitVec (FTy.bits .f32)) reducesTo_S512x5000_S512_d1 h_S_ hr (.inl rfl) rfl) (ix1 b)).trans
      (Ideal.multiReduction_maximumf_single A _ hr (.inl rfl) rfl (ix1 b))
    rw [e2, word_bottom, max_eq_right bot_le]
    show Finset.fold max (Ideal.ofBits .f32 0xFF800000#32) _ _ = _
    rw [word_bottom]
    refine Finset.fold_congr fun k _ => (congrArg A (funext fun a => ?_)).trans (h k)
    match a with | ⟨0, _⟩ => rfl | ⟨1, _⟩ => rfl
  rw [e]
  exact fold_real f ⟨0, by decide⟩

/-- The exponentials of a row less its largest entry. -/
def powers (A : Arr) : Arr := Host.exp (subf A (along (peak A)))

/-- The softmax of each row. -/
def mass (A : Arr) : Arr := Host.divf (powers A) (along (total (powers A)))

/-- The logarithm of the softmax of each row. -/
def logMass (A : Arr) : Arr :=
  subf (subf A (along (peak A))) (broadcastInDim S512x5000 ![0, 1] bcast_S512x1_S512x5000_0_1 (Host.log (broadcastInDim S512x1 ![0] bcast_S512_S512x1_0 (total (powers A)))))

/-- The entries of the divergence of one softmax from another. -/
def spreadOf (A2 A0 : Arr) : Arr := mulf (mass A2) (subf (Host.log (mass A2)) (logMass A0))

/-- The binary cross-entropies of the entries against their labels. -/
def entropy (A L : Arr) : Arr := addf (subf (maximumf A (broadcastInDim S512x5000 ![] bcast_S_S512x5000 (constant S_ .f32 0x00000000#32))) (mulf A L)) (Host.log1p (Host.exp (Host.negf (Host.absf A))))

/-- The labels: one at the ten greatest entries of each row. -/
def label (Y : Arr) : Arr :=
  Host.reduceAdd (uitofp .f32 (cmpi .eq (broadcastInDim S512x10x5000 ![0, 1, 2] bcast_S512x10x1_S512x10x5000_0_1_2 (broadcastInDim S512x10x1 ![0, 1] bcast_S512x10_S512x10x1_0_1
    ((Host.topK S512x10 1 (FloatOps.cmpfTotal .gt) Y sliceFits_S512x5000_S512x10).2))) (broadcastInDim S512x10x5000 ![0, 1, 2] bcast_S1x1x5000_S512x10x5000_0_1_2 (iotaInDim S1x1x5000 32 2))))
    (constant S_ .f32 0x00000000#32) reducesTo_S512x10x5000_S512x5000_d1 h_S_

section
variable (A : Arr) (b : Fin 512) (f : Fin 5000 → ℝ) (h : ∀ r, A (ix2 b r) = ((f r : ℝ) : EReal))
include h

/-- A real row's exponentials, shifted by its largest entry. -/
theorem powers_real (M : ℝ) (hM : peak A (ix1 b) = ((M : ℝ) : EReal)) (r : Fin 5000) : powers A (ix2 b r) = ((Real.exp (f r - M) : ℝ) : EReal) := by
  show Ideal.exp (A (ix2 b r) - along (peak A) (ix2 b r)) = _
  rw [along_at, hM, h r, ← EReal.coe_sub]
  rfl

/-- A real row's softmax. -/
theorem mass_real (M : ℝ) (hM : peak A (ix1 b) = ((M : ℝ) : EReal)) (r : Fin 5000) :
    mass A (ix2 b r) = ((Real.exp (f r - M) / ∑ s, Real.exp (f s - M) : ℝ) : EReal) := by
  show Ideal.div (powers A (ix2 b r)) (along (total (powers A)) (ix2 b r)) = _
  rw [along_at, total_real _ b _ (powers_real A b f h M hM), powers_real A b f h M hM, div_real (mass_pos fun s => f s - M).ne']

/-- A real row's logarithm of the softmax. -/
theorem logMass_real (M : ℝ) (hM : peak A (ix1 b) = ((M : ℝ) : EReal)) (r : Fin 5000) :
    logMass A (ix2 b r) = ((f r - M - Real.log (∑ s, Real.exp (f s - M)) : ℝ) : EReal) := by
  show (A (ix2 b r) - along (peak A) (ix2 b r)) - broadcastInDim S512x5000 ![0, 1] bcast_S512x1_S512x5000_0_1 (Host.log (broadcastInDim S512x1 ![0] bcast_S512_S512x1_0 (total (powers A)))) (ix2 b r) = _
  rw [along_at, hM, h r, spread]
  show _ - Ideal.log (broadcastInDim S512x1 ![0] bcast_S512_S512x1_0 (total (powers A)) (ix2 b (0 : Fin 1))) = _
  rw [upright, total_real _ b _ (powers_real A b f h M hM), Plain.log_pos (mass_pos fun s => f s - M), ← EReal.coe_sub, ← EReal.coe_sub]

/-- A real row's cross-entropies against real labels. -/
theorem entropy_real (L : Arr) (g : Fin 5000 → ℝ) (hg : ∀ r, L (ix2 b r) = ((g r : ℝ) : EReal)) (r : Fin 5000) :
    entropy A L (ix2 b r) = ((soft (f r) - g r * f r : ℝ) : EReal) := by
  show (max (A (ix2 b r)) (Ideal.ofBits .f32 0x00000000#32) - A (ix2 b r) * L (ix2 b r)) + Ideal.log (1 + Ideal.exp (-(max (A (ix2 b r)) (-(A (ix2 b r)))))) = _
  have hx : ∀ x y : ℝ, max ((x : ℝ) : EReal) ((y : ℝ) : EReal) = ((max x y : ℝ) : EReal) := fun x y => (EReal.coe_strictMono.monotone.map_max).symm
  rw [h r, hg r, word_zero, show (0 : EReal) = ((0 : ℝ) : EReal) from rfl, hx, ← EReal.coe_neg, hx, ← EReal.coe_neg,
    show Ideal.exp ((-(max (f r) (-(f r))) : ℝ) : EReal) = ((Real.exp (-(max (f r) (-(f r)))) : ℝ) : EReal) from rfl,
    show (1 : EReal) = ((1 : ℝ) : EReal) from rfl, ← EReal.coe_add, Plain.log_pos (by positivity), ← EReal.coe_mul, ← EReal.coe_sub, ← EReal.coe_add, ← soft_stable]
  congr 1
  rw [show |f r| = max (f r) (-(f r)) from rfl]
  ring

end

/-- A real row's divergence. -/
theorem spread_total (A2 A0 : Arr) (b : Fin 512) (y u : Fin 5000 → ℝ) (h2 : ∀ r, A2 (ix2 b r) = ((y r : ℝ) : EReal)) (h0 : ∀ r, A0 (ix2 b r) = ((u r : ℝ) : EReal)) :
    total (spreadOf A2 A0) (ix1 b) = ((diverge u y : ℝ) : EReal) := by
  obtain ⟨M, hM⟩ := peak_real A2 b y h2
  obtain ⟨K, hK⟩ := peak_real A0 b u h0
  rw [← diverge_shifted u y M K]
  refine total_real _ b _ fun r => ?_
  have hp : 0 < Real.exp (y r - M) / ∑ s, Real.exp (y s - M) := div_pos (Real.exp_pos _) (mass_pos fun s => y s - M)
  show mass A2 (ix2 b r) * (Ideal.log (mass A2 (ix2 b r)) - logMass A0 (ix2 b r)) = _
  rw [mass_real A2 b y h2 M hM, logMass_real A0 b u h0 K hK, Plain.log_pos hp, ← EReal.coe_sub, ← EReal.coe_mul]

/-- A one-bit equality, as a number. -/
theorem one_hot (p q : ℕ) (hp : p < 5000) (hq : q < 5000) : (((IntOp.cmpi .eq (BitVec.ofNat 32 p) (BitVec.ofNat 32 q)).toNat : ℝ) : EReal) = if p = q then 1 else 0 := by
  by_cases e : p = q
  · subst e; rw [if_pos rfl, show IntOp.cmpi .eq (BitVec.ofNat 32 p) (BitVec.ofNat 32 p) = 1#1 by simp [IntOp.cmpi]]; norm_num
  · have hne : BitVec.ofNat 32 p ≠ BitVec.ofNat 32 q := fun hh => e (by
      have := congrArg BitVec.toNat hh
      rw [BitVec.toNat_ofNat, BitVec.toNat_ofNat, Nat.mod_eq_of_lt (by omega), Nat.mod_eq_of_lt (by omega)] at this
      exact this)
    rw [if_neg e, show IntOp.cmpi .eq (BitVec.ofNat 32 p) (BitVec.ofNat 32 q) = 0#1 by unfold IntOp.cmpi; rw [show (BitVec.ofNat 32 p == BitVec.ofNat 32 q) = false from beq_eq_false_iff_ne.mpr hne]; rfl]; norm_num

/-- A label is one exactly where the entry is at or above the row's tenth greatest, if that is above the eleventh. -/
theorem label_at (Y : Arr) (b : Fin 512) (gap : Y (ix2 b (place Y b 10)) < Y (ix2 b (place Y b 9))) (r : Fin 5000) :
    label Y (ix2 b r) = (((if Y (ix2 b (place Y b 9)) ≤ Y (ix2 b r) then 1 else 0 : ℝ)) : EReal) := by
  have hr : S512x10x5000.Reduces [1] S512x5000 := by decide
  have hs := label_sum (fun k => Y (ix2 b k)) (place Y b) (place_bijective Y b) (place_falls Y b) gap r
  have hR : (((if Y (ix2 b (place Y b 9)) ≤ Y (ix2 b r) then 1 else 0 : ℝ)) : EReal) = if Y (ix2 b (place Y b 9)) ≤ Y (ix2 b r) then 1 else 0 := by
    split_ifs <;> rfl
  rw [hR, ← hs]
  unfold label
  show Ideal.hostReduceAdd reducesTo_S512x10x5000_S512x5000_d1 _ (Ideal.ofBits .f32 0x00000000#32) (ix2 b r) = _
  rw [Ideal.hostReduceAdd_single _ hr, word_zero, zero_add]
  refine Finset.sum_congr rfl fun k _ => ?_
  have hk : hr.lift (ix2 b r) k = ix3 b k r := funext fun a => by match a with | ⟨0, _⟩ => rfl | ⟨1, _⟩ => rfl | ⟨2, _⟩ => rfl
  rw [hk]
  have e1 : broadcastInDim S512x10x5000 ![0, 1, 2] bcast_S512x10x1_S512x10x5000_0_1_2 (broadcastInDim S512x10x1 ![0, 1] bcast_S512x10_S512x10x1_0_1
      ((Host.topK S512x10 1 (FloatOps.cmpfTotal .gt) Y sliceFits_S512x5000_S512x10).2)) (ix3 b k r) = BitVec.ofNat 32 (place Y b (wide k)).val := by
    refine (broadcastInDim_apply _ _ _ _ (ix3 b k (0 : Fin 1)) fun a => ?_).trans ((broadcastInDim_apply _ _ _ _ (ix2 b k) fun a => ?_).trans (top_index Y _ b k _))
    · match a with | ⟨0, _⟩ => rfl | ⟨1, _⟩ => rfl | ⟨2, _⟩ => rfl
    · match a with | ⟨0, _⟩ => rfl | ⟨1, _⟩ => rfl
  have e2 : broadcastInDim S512x10x5000 ![0, 1, 2] bcast_S1x1x5000_S512x10x5000_0_1_2 (iotaInDim S1x1x5000 32 2) (ix3 b k r) = BitVec.ofNat 32 r.val := by
    refine (broadcastInDim_apply _ _ _ _ (ix3 (0 : Fin 1) (0 : Fin 1) r) fun a => ?_)
    match a with | ⟨0, _⟩ => rfl | ⟨1, _⟩ => rfl | ⟨2, _⟩ => rfl
  show (((IntOp.cmpi .eq (broadcastInDim S512x10x5000 _ _ _ (ix3 b k r)) (broadcastInDim S512x10x5000 _ _ _ (ix3 b k r))).toNat : ℝ) : EReal) = _
  rw [e1, e2, one_hot _ _ (place Y b (wide k)).isLt r.isLt]
  exact if_congr Fin.val_inj rfl rfl

end Cert.ReferenceIdeal.Rows

end
-- ==== Proof.Ref.lean ====
/- The reference's result on real arrays: the mean over the rows of their losses, each over the row's length. -/
module

public import proofs.«01_k».proof.Proof.RefRows
public import proofs.«01_k».proof.Proof.Gen.ReferenceIdeal.Run

@[expose] public section

set_option maxRecDepth 8192

noncomputable section

namespace Cert.ReferenceIdeal.Rows

open Cert.ReferenceIdeal Cert.ReferenceIdeal.Gen Idealize.ShloMosaic Idealize.ShloMosaic.TcCoe Idealize.ShloMosaic.ValueIdx Cert.Plain
open scoped BigOperators

/-- The word for the length of a row. -/
theorem word_length : Ideal.ofBits .f32 0x459C4000#32 = ((5000 : ℝ) : EReal) := by simp [Ideal.ofBits, Ideal.ieee, -EReal.coe_mul]; norm_num
/-- The word for the number of rows. -/
theorem word_rows : Ideal.ofBits .f32 0x44000000#32 = ((512 : ℝ) : EReal) := by simp [Ideal.ofBits, Ideal.ieee, -EReal.coe_mul]; norm_num
/-- The word for one. -/
theorem word_unit : Ideal.ofBits .f32 0x3F800000#32 = ((1 : ℝ) : EReal) := by simp [Ideal.ofBits, Ideal.ieee, -EReal.coe_mul]; norm_num
/-- The word for one half. -/
theorem word_half : Ideal.ofBits .f32 0x3F000000#32 = ((1 / 2 : ℝ) : EReal) := by simp [Ideal.ofBits, Ideal.ieee, -EReal.coe_mul]; norm_num

/-- One weighted part of every row's loss: a number times the row's sum over its length. -/
def part (w : BitVec 32) (X : Arr) : Col := mulf (every w) (Host.divf (total X) (every 0x459C4000#32))

/-- Every row's loss over its length. -/
def rows (A0 A1 A2 : Arr) : Col :=
  addf (addf (part 0x3F800000#32 (entropy A0 (label A2))) (part 0x3F000000#32 (entropy A1 (label (Host.negf A2))))) (part 0x3E99999A#32 (spreadOf A2 A0))

/-- The reference's result of its first three arguments. -/
def result (A0 A1 A2 : Arr) : FVec Ideal S_ .f32 :=
  Host.divf (Host.reduceAdd (rows A0 A1 A2) (constant S_ .f32 0x00000000#32) reducesTo_S512_S_d0 h_S_) (constant S_ .f32 0x44000000#32)

/-- It is what the reference's program leaves. -/
theorem result_eq (m : (ℓ : Loc nD τ sig) → Buf (Elt Ideal) ℓ) (c : Dev nD) :
    Value.res_main_v56 m c = result (m ((c.tc : Thread nD τ).loc main_arg0)) (m ((c.tc : Thread nD τ).loc main_arg1)) (m ((c.tc : Thread nD τ).loc main_arg2)) := by
  unfold Value.res_main_v56; rfl

/-- A part on a real sum. -/
theorem part_real (w : BitVec 32) (k : ℝ) (hw : Ideal.ofBits .f32 w = ((k : ℝ) : EReal)) (X : Arr) (b : Fin 512) (s : ℝ) (h : total X (ix1 b) = ((s : ℝ) : EReal)) :
    part w X (ix1 b) = ((k * (s / 5000) : ℝ) : EReal) := by
  show every w (ix1 b) * Ideal.div (total X (ix1 b)) (every 0x459C4000#32 (ix1 b)) = _
  rw [every_at, every_at, hw, h, word_length, div_real (by norm_num), ← EReal.coe_mul]

section
variable (A0 A1 A2 : Arr) (u d y : Fin 512 → Fin 5000 → ℝ)
  (h0 : ∀ b r, A0 (ix2 b r) = ((u b r : ℝ) : EReal)) (h1 : ∀ b r, A1 (ix2 b r) = ((d b r : ℝ) : EReal)) (h2 : ∀ b r, A2 (ix2 b r) = ((y b r : ℝ) : EReal))
  (g : ∀ b, A2 (ix2 b (place A2 b 10)) < A2 (ix2 b (place A2 b 9)))
  (g' : ∀ b, Host.negf A2 (ix2 b (place (Host.negf A2) b 10)) < Host.negf A2 (ix2 b (place (Host.negf A2) b 9)))
include h0 h1 h2 g g'

/-- A row's loss, its labels the ten largest and the ten smallest of the third array's row. -/
theorem rows_real (b : Fin 512) : rows A0 A1 A2 (ix1 b)
    = ((loss (u b) (d b) (y b) (fun r => if A2 (ix2 b (place A2 b 9)) ≤ A2 (ix2 b r) then 1 else 0)
        (fun r => if Host.negf A2 (ix2 b (place (Host.negf A2) b 9)) ≤ Host.negf A2 (ix2 b r) then 1 else 0) / 5000 : ℝ) : EReal) := by
  show (part 0x3F800000#32 (entropy A0 (label A2)) (ix1 b) + part 0x3F000000#32 (entropy A1 (label (Host.negf A2))) (ix1 b)) + part 0x3E99999A#32 (spreadOf A2 A0) (ix1 b) = _
  rw [part_real _ _ word_unit _ b _ (total_real _ b _ (entropy_real A0 b (u b) (h0 b) _ _ (label_at A2 b (g b)))),
    part_real _ _ word_half _ b _ (total_real _ b _ (entropy_real A1 b (d b) (h1 b) _ _ (label_at (Host.negf A2) b (g' b)))),
    part_real _ _ word_weight _ b _ (spread_total A2 A0 b (y b) (u b) (h2 b) (h0 b)), ← EReal.coe_add, ← EReal.coe_add]
  unfold loss
  congr 1
  ring

/-- The result: the losses' sum over the count of entries. -/
theorem result_real (j : S_.Idx) : result A0 A1 A2 j
    = (((∑ b, loss (u b) (d b) (y b) (fun r => if A2 (ix2 b (place A2 b 9)) ≤ A2 (ix2 b r) then 1 else 0)
        (fun r => if Host.negf A2 (ix2 b (place (Host.negf A2) b 9)) ≤ Host.negf A2 (ix2 b r) then 1 else 0)) / 2560000 : ℝ) : EReal) := by
  have hs : Host.reduceAdd (rows A0 A1 A2) (constant S_ .f32 0x00000000#32) reducesTo_S512_S_d0 h_S_ j
      = ((∑ b : Fin 512, loss (u b) (d b) (y b) (fun r => if A2 (ix2 b (place A2 b 9)) ≤ A2 (ix2 b r) then 1 else 0)
        (fun r => if Host.negf A2 (ix2 b (place (Host.negf A2) b 9)) ≤ Host.negf A2 (ix2 b r) then 1 else 0) / 5000 : ℝ) : EReal) := by
    show Ideal.hostReduceAdd reducesTo_S512_S_d0 (rows A0 A1 A2) (Ideal.ofBits .f32 0x00000000#32) j = _
    rw [Ideal.hostReduceAdd_total _ (fun b => b.elim0), word_zero, zero_add, ← sum_coe]
    refine (Fintype.sum_equiv ⟨fun b => ix1 b, fun i => i 0, fun _ => rfl, fun i => (eq_ix1 i).symm⟩ (fun b : Fin 512 => rows A0 A1 A2 (ix1 b)) _ fun _ => rfl).symm.trans ?_
    exact Finset.sum_congr rfl fun b _ => rows_real A0 A1 A2 u d y h0 h1 h2 g g' b
  show Ideal.div (Host.reduceAdd (rows A0 A1 A2) (constant S_ .f32 0x00000000#32) reducesTo_S512_S_d0 h_S_ j) (Ideal.ofBits .f32 0x44000000#32) = _
  rw [hs, word_rows, div_real (by norm_num), ← Finset.sum_div]
  congr 1
  ring

end

end Cert.ReferenceIdeal.Rows

end
-- ==== Proof.Pre.lean ====
/- What the precondition says of the argument arrays. -/
module

public import proofs.«01_k».proof.Pre_tame
public import proofs.«01_k».proof.Proof.Sort
public import Idealize.ShloMosaic.Lib.ReduceAll
public import Idealize.ShloMosaic.Lib.ValueLayout
public import Idealize.ShloMosaic.Lib.KernelVsHost

@[expose] public section

noncomputable section

namespace Cert.Plain

open Idealize.ShloMosaic Idealize.ShloMosaic.ValueIdx Cert.Pre_tame
open scoped BigOperators

/-- An extended real whose size is below the infinite word is a real number. -/
theorem real_of_small (x : EReal) (h : FloatOps.cmpf (F := Ideal) (φ := .f32) .olt (max x (-x) : EReal) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    have : BitVec.ofBool (decide (max x (-x) < ⊤)) = 1#1 := h
    rw [decide_eq_false hn] at this
    exact absurd this (by decide)
  rw [max_lt_iff] at hlt
  refine ⟨x.toReal, (EReal.coe_toReal hlt.1.ne ?_).symm⟩
  rintro rfl
  exact absurd hlt.2 (by simp)

/-- A comparison that reads one says the order. -/
theorem lt_of_ogt (x y : EReal) (h : FloatOps.cmpf (F := Ideal) (φ := .f32) .ogt x y = 1#1) : y < x := by
  by_contra hn
  have : BitVec.ofBool (decide (y < x)) = 1#1 := h
  rw [decide_eq_false hn] at this
  exact absurd this (by decide)

/-- A column of a rank-two array, read as a vector. -/
theorem column_read (v : FVec Ideal S512x11 .f32) (off : Fin 2 → ℕ) (k : Fin 11) (h0 : off 0 = 0) (h1 : off 1 = k.val) (h : S512x11.Slices off S512x1) (hs : S512x1.ShapeCasts S512) (b : Fin 512) :
    shapeCast S512 (extractStridedSlice S512x1 off v h) hs (ix1 b) = v (ix2 b k) := by
  rw [shapeCast_apply _ hs (ix1 b) (ix2 b (0 : Fin 1)) (by rw [Shape.rowMajor_val_one, Shape.rowMajor_val_two]; show b.val * 1 + 0 = b.val; omega)]
  refine extractStridedSlice_apply off v h _ _ fun a => ?_
  match a with
  | ⟨0, _⟩ => show b.val = off 0 + b.val; omega
  | ⟨1, _⟩ => show k.val = off 1 + 0; omega

variable [Facts]

/-- The precondition's reading: the three arrays hold real numbers, and in each row of the third and of its negation the tenth greatest entry is above the eleventh. -/
theorem tame_reads (A0 A1 A2 A3 : FVec Ideal S512x5000 .f32) (h : fn (F := Ideal) A0 A1 A2 A3 = fun _ => 1#1) :
    (∀ i, ∃ r : ℝ, A0 i = r) ∧ (∀ i, ∃ r : ℝ, A1 i = r) ∧ (∀ i, ∃ r : ℝ, A2 i = r)
    ∧ (∀ b, A2 (ix2 b (place A2 b 10)) < A2 (ix2 b (place A2 b 9)))
    ∧ (∀ b, (Host.negf A2 : FVec Ideal S512x5000 .f32) (ix2 b (place (Host.negf A2) b 10)) < (Host.negf A2 : FVec Ideal S512x5000 .f32) (ix2 b (place (Host.negf A2) b 9))) := by
  have h0 := congrFun h (Shape.Idx.first Facts.h_S_)
  unfold fn fn_part1 at h0
  dsimp only at h0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  haveI : Subsingleton S_.Idx := ⟨fun a b => funext fun k => k.elim0⟩
  refine ⟨fun i => ?_, fun i => ?_, fun i => ?_, fun b => ?_, fun b => ?_⟩
  · exact real_of_small _ (Host.reduce_andi_all _ _ _ _ _ e1 i)
  · exact real_of_small _ (Host.reduce_andi_all _ _ _ _ _ e2 i)
  · exact real_of_small _ (Host.reduce_andi_all _ _ _ _ _ e3 i)
  · have e := lt_of_ogt _ _ (Host.reduce_andi_all _ _ _ _ _ e4 (ix1 b))
    rw [column_read _ ![0, 9] 9 rfl rfl, column_read _ ![0, 10] 10 rfl rfl, top_value _ _ b 9 (by decide), top_value _ _ b 10 (by decide)] at e
    exact e
  · have e := lt_of_ogt _ _ (Host.reduce_andi_all _ _ _ _ _ e5 (ix1 b))
    rw [column_read _ ![0, 9] 9 rfl rfl, column_read _ ![0, 10] 10 rfl rfl, top_value _ _ b 9 (by decide), top_value _ _ b 10 (by decide)] at e
    exact e

end Cert.Plain

end
-- ==== Proof.Algebraic.lean ====
/- The kernel and the reference end with the same number, for arguments that are tame. -/
module

public import proofs.«01_k».proof.Defs
public import proofs.«01_k».proof.Proof.Equation
public import proofs.«01_k».proof.Proof.Ref
public import proofs.«01_k».proof.Proof.Pre

@[expose] public section

set_option maxRecDepth 65536

noncomputable section

namespace Cert.Same

open Idealize.ShloMosaic Idealize.ShloMosaic.TcCoe Idealize.ShloMosaic.ValueIdx Idealize.SL.Sem
open Cert.KernelIdeal Cert.KernelIdeal.Gen Cert.KernelIdeal.Val Cert.Plain

/-- The word for the count of entries. -/
theorem word_entries : Ideal.ofBits .f32 0x4A1C4000#32 = ((2560000 : ℝ) : EReal) := by simp [Ideal.ofBits, Ideal.ieee, -EReal.coe_mul]; norm_num

variable [Cert.Pre_tame.Facts] (m : (ℓ : Loc nD τ sig) → Buf (Elt Ideal) ℓ) (c : Dev nD)
  (A3 : FVec Ideal Cert.Pre_tame.S512x5000 .f32) (h : Cert.Pre_tame.fn (F := Ideal) (ups m c) (downs m c) (ys m c) A3 = fun _ => 1#1)
include h

/-- Tame arguments are tame block by block. -/
theorem tame_all (t : Fin cfg0.N) : Cert.KernelIdeal.Body.Tame (iblk m c 2 t) (upper m c t) (lower m c t) := by
  obtain ⟨_, _, r2, g, g'⟩ := Cert.Plain.tame_reads (ups m c) (downs m c) (ys m c) A3 h
  choose y hy using r2
  exact tame_block m c (fun b r => y (ix2 b r)) (fun b r => hy (ix2 b r)) g g' t

/-- The kernel's quotient is the reference's. -/
theorem same : (fun _ => Ideal.div (whole m (upper m) (lower m) c) (Ideal.ofBits .f32 0x4A1C4000#32)) = Cert.ReferenceIdeal.Rows.result (ups m c) (downs m c) (ys m c) := by
  obtain ⟨r0, r1, r2, g, g'⟩ := Cert.Plain.tame_reads (ups m c) (downs m c) (ys m c) A3 h
  choose u hu using r0
  choose d hd using r1
  choose y hy using r2
  funext j
  rw [Cert.ReferenceIdeal.Rows.result_real (ups m c) (downs m c) (ys m c) (fun b r => u (ix2 b r)) (fun b r => d (ix2 b r)) (fun b r => y (ix2 b r))
      (fun b r => hu (ix2 b r)) (fun b r => hd (ix2 b r)) (fun b r => hy (ix2 b r)) g g' j,
    whole_real m c (fun b r => u (ix2 b r)) (fun b r => d (ix2 b r)) (fun b r => y (ix2 b r)) (fun b r => hy (ix2 b r)) g g' (fun b r => hu (ix2 b r)) (fun b r => hd (ix2 b r)),
    word_entries, div_real (by norm_num)]
  rfl

omit h

/-- On tame arguments the kernel and the reference leave the same number. -/
theorem algebraic [hP : Cert.Pre_tame.Facts] : Cert.algebraic_KernelIdeal_ReferenceIdeal_pre_tame := by
  intro m g m' g' hpre hagree
  refine ⟨fun c _ => Ideal.div (whole m (upper m) (lower m) c) (Ideal.ofBits .f32 0x4A1C4000#32), ?_, ?_⟩
  · exact outcome m g (upper m) (lower m) fun c t => tame_all m c _ (hpre c) t
  · refine (θ_run _ _ _).mono (fun r hr c => ⟨(hr c).1.trans ?_, (hr c).2⟩) (Cert.ReferenceIdeal.Value.run (F := Ideal) m' g')
    rw [Cert.ReferenceIdeal.Rows.result_eq, (hagree c).1, (hagree c).2.1, (hagree c).2.2.1]
    exact (same m c _ (hpre c)).symm

end Cert.Same

end
-- ==== Proof.lean ====
/- The parts put together: each frame, the named constants. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Small
public import proofs.«01_k».proof.Proof.KFrame
public import proofs.«01_k».proof.Proof.IFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.Pre_tame.Gen.facts,
  fun m g _ => Cert.Kernel.Body.frame_all m g, fun m g _ => Cert.KernelIdeal.Body.frame_all m g, fun m g _ => Cert.KernelIdeal.Body.frame_all m g,
  Cert.Small.frame_reference, fun m g _ => Cert.Small.frame_reference m g trivial, Cert.Small.preserves, Cert.Same.algebraic (hP := Cert.Pre_tame.Gen.facts)⟩

end Cert.Proof

end
